-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x16x64 : S_.BroadcastsInDim S2x128x16x64 (![] : Fin 0 → Fin S2x128x16x64.rank)

variable [Facts]

def fn {F : FTy → Type} [FloatOps F] (main_arg0 : FVec F S2x128x512 .f32) (main_arg1 : FVec F S512x256 .f32) (main_arg2 : FVec F S2x128x16x64 .f32) (main_arg3 : FVec F S2x128x16x64 .f32) (main_arg4 : FVec F S256x512 .f32) : IVec S2x128x512 1 × IVec S512x256 1 × IVec S2x128x16x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x16x64 .f32 := Host.absf main_arg2
  let main_cst_1 : FVec F S_ .f32 := constant S_ .f32 0x7F800000#32
  let main_v7 : FVec F S2x128x16x64 .f32 := broadcastInDim S2x128x16x64 ![] bcast_S_S2x128x16x64 main_cst_1
  let main_v8 : IVec S2x128x16x64 1 := cmpf .olt main_v6 main_v7
  (main_v2, main_v5, main_v8)
-- ==== Pre_finite_scores_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  bcast_S_S512x1024 : S_.BroadcastsInDim S512x1024 (![] : Fin 0 → Fin S512x1024.rank)
  bcast_S_S2x128x16x64 : S_.BroadcastsInDim S2x128x16x64 (![] : Fin 0 → Fin S2x128x16x64.rank)

variable [Facts]

def fn {F : FTy → Type} [FloatOps F] (main_arg0 : FVec F S2x128x512 .f32) (main_arg1 : FVec F S512x1024 .f32) (main_arg2 : FVec F S2x128x16x64 .f32) (main_arg3 : FVec F S2x128x16x64 .f32) (main_arg4 : FVec F S1024x512 .f32) : IVec S2x128x512 1 × IVec S512x1024 1 × IVec S2x128x16x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x128x16x64 .f32 := Host.absf main_arg2
  let main_cst_1 : FVec F S_ .f32 := constant S_ .f32 0x7F800000#32
  let main_v7 : FVec F S2x128x16x64 .f32 := broadcastInDim S2x128x16x64 ![] bcast_S_S2x128x16x64 main_cst_1
  let main_v8 : IVec S2x128x16x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩
abbrev S2x128x4x64 : Shape := ⟨4, ![2, 128, 4, 64]⟩
abbrev S128x256 : Shape := ⟨2, ![128, 256]⟩
abbrev S2x4 : Shape := ⟨2, ![2, 4]⟩
abbrev S1x128x512 : Shape := ⟨3, ![1, 128, 512]⟩
abbrev S128x512 : Shape := ⟨2, ![128, 512]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S1x1 : Shape := ⟨2, ![1, 1]⟩
abbrev S1x32x512 : Shape := ⟨3, ![1, 32, 512]⟩
abbrev S32x512 : Shape := ⟨2, ![32, 512]⟩

abbrev nBuf : Space → Nat
  | .hbm => 34
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x16x64, .f32⟩
  | .hbm, ⟨3, _⟩ => ⟨S2x128x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .f32⟩
  | .hbm, ⟨33, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S128x256, .f32⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_77 : BitVec 32 := 1#32
  let v94 : BitVec 32 := Scalar.muli v3 c1_i32_77
  let v95 : BitVec 32 := Scalar.addi c0_i32_78 v94
  v95.toNat
def k0_dev4 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_89 : BitVec 32 := 1#32
  let v104 : BitVec 32 := Scalar.muli v3 c1_i32_89
  let v105 : BitVec 32 := Scalar.addi c0_i32_90 v104
  v105.toNat
def k0_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_100 : BitVec 32 := 1#32
  let v114 : BitVec 32 := Scalar.muli v3 c1_i32_100
  let v115 : BitVec 32 := Scalar.addi c0_i32_101 v114
  v115.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_111 : BitVec 32 := 1#32
  let v124 : BitVec 32 := Scalar.muli v3 c1_i32_111
  let v125 : BitVec 32 := Scalar.addi c0_i32_112 v124
  v125.toNat
def k0_dev7 (d0 : Dev nD) : Nat :=
  let c0_i32_196 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_195 : BitVec 32 := 1#32
  let v218 : BitVec 32 := Scalar.muli v4 c1_i32_195
  let v219 : BitVec 32 := Scalar.addi c0_i32_196 v218
  v219.toNat
def k0_dev8 (d0 : Dev nD) : Nat :=
  let c0_i32_208 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_207 : BitVec 32 := 1#32
  let v228 : BitVec 32 := Scalar.muli v4 c1_i32_207
  let v229 : BitVec 32 := Scalar.addi c0_i32_208 v228
  v229.toNat
def k0_dev9 (d0 : Dev nD) : Nat :=
  let c0_i32_220 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_219 : BitVec 32 := 1#32
  let v238 : BitVec 32 := Scalar.muli v4 c1_i32_219
  let v239 : BitVec 32 := Scalar.addi c0_i32_220 v238
  v239.toNat
def k0_dev10 (d0 : Dev nD) : Nat :=
  let c0_i32_232 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_231 : BitVec 32 := 1#32
  let v248 : BitVec 32 := Scalar.muli v4 c1_i32_231
  let v249 : BitVec 32 := Scalar.addi c0_i32_232 v248
  v249.toNat
def k0_dev11 (d0 : Dev nD) : Nat :=
  let c0_i32_279 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_278 : BitVec 32 := 1#32
  let v285 : BitVec 32 := Scalar.muli v4 c1_i32_278
  let v286 : BitVec 32 := Scalar.addi c0_i32_279 v285
  v286.toNat
def k0_dev12 (d0 : Dev nD) : Nat :=
  let c0_i32_325 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_324 : BitVec 32 := 1#32
  let v322 : BitVec 32 := Scalar.muli v4 c1_i32_324
  let v323 : BitVec 32 := Scalar.addi c0_i32_325 v322
  v323.toNat
def k0_dev13 (d0 : Dev nD) : Nat :=
  let c0_i32_372 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_371 : BitVec 32 := 1#32
  let v359 : BitVec 32 := Scalar.muli v4 c1_i32_371
  let v360 : BitVec 32 := Scalar.addi c0_i32_372 v359
  v360.toNat
def k0_dev14 (d0 : Dev nD) : Nat :=
  let c0_i32_418 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_417 : BitVec 32 := 1#32
  let v396 : BitVec 32 := Scalar.muli v4 c1_i32_417
  let v397 : BitVec 32 := Scalar.addi c0_i32_418 v396
  v397.toNat
def k0_dev15 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_464 : BitVec 32 := 1#32
  let v433 : BitVec 32 := Scalar.muli v3 c1_i32_464
  let v434 : BitVec 32 := Scalar.addi c0_i32_465 v433
  v434.toNat
def k0_dev16 (d0 : Dev nD) : Nat :=
  let c0_i32_512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_511 : BitVec 32 := 1#32
  let v470 : BitVec 32 := Scalar.muli v3 c1_i32_511
  let v471 : BitVec 32 := Scalar.addi c0_i32_512 v470
  v471.toNat
def k0_dev17 (d0 : Dev nD) : Nat :=
  let c0_i32_559 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_558 : BitVec 32 := 1#32
  let v507 : BitVec 32 := Scalar.muli v3 c1_i32_558
  let v508 : BitVec 32 := Scalar.addi c0_i32_559 v507
  v508.toNat
def k0_dev18 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_605 : BitVec 32 := 1#32
  let v544 : BitVec 32 := Scalar.muli v3 c1_i32_605
  let v545 : BitVec 32 := Scalar.addi c0_i32_606 v544
  v545.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 67
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x1024, .f32⟩
  | .hbm, ⟨2, _⟩ => ⟨S2x128x16x64, .f32⟩
  | .hbm, ⟨3, _⟩ => ⟨S2x128x16x64, .f32⟩
  | .hbm, ⟨4, _⟩ => ⟨S1024x512, .f32⟩
  | .hbm, ⟨5, _⟩ => ⟨S2x128x1024, .f32⟩
  | .hbm, ⟨6, _⟩ => ⟨S2x128x16x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S1x128, .i32⟩
  | .hbm, ⟨20, _⟩ => ⟨S1x128, .i1⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S2x16x128x128, .f32⟩
  | .hbm, ⟨29, _⟩ => ⟨S_, .f32⟩
  | .hbm, ⟨30, _⟩ => ⟨S2x16x128x128, .f32⟩
  | .hbm, ⟨31, _⟩ => ⟨S2x16x128x128, .f32⟩
  | .hbm, ⟨32, _⟩ => ⟨S1x1x128x128, .i1⟩
  | .hbm, ⟨33, _⟩ => ⟨S_, .f32⟩
  | .hbm, ⟨34, _⟩ => ⟨S_, .f32⟩
  | .hbm, ⟨35, _⟩ => ⟨S2x16x128x128, .i1⟩
  | .hbm, ⟨36, _⟩ => ⟨S2x16x128x128, .f32⟩
  | .hbm, ⟨37, _⟩ => ⟨S2x16x128x128, .f32⟩
  | .hbm, ⟨38, _⟩ => ⟨S_, .f32⟩
  | .hbm, ⟨39, _⟩ => ⟨S2x16x128, .f32⟩
  | .hbm, ⟨40, _⟩ => ⟨S2x16x128x1, .f32⟩
  | .hbm, ⟨41, _⟩ => ⟨S2x16x128x128, .f32⟩
  | .hbm, ⟨42, _⟩ => ⟨S2x16x128x128, .f32⟩
  | .hbm, ⟨43, _⟩ => ⟨S2x16x128x128, .f32⟩
  | .hbm, ⟨44, _⟩ => ⟨S_, .i1⟩
  | .hbm, ⟨45, _⟩ => ⟨S128, .i1⟩
  | .hbm, ⟨46, _⟩ => ⟨S1x1x128x1, .i1⟩
  | .hbm, ⟨47, _⟩ => ⟨S_, .f32⟩
  | .hbm, ⟨48, _⟩ => ⟨S2x16x128, .f32⟩
  | .hbm, ⟨49, _⟩ => ⟨S2x16x128x1, .f32⟩
  | .hbm, ⟨50, _⟩ => ⟨S_, .f32⟩
  | .hbm, ⟨51, _⟩ => ⟨S_, .f32⟩
  | .hbm, ⟨52, _⟩ => ⟨S2x16x128x1, .i1⟩
  | .hbm, ⟨53, _⟩ => ⟨S2x16x128x1, .f32⟩
  | .hbm, ⟨54, _⟩ => ⟨S2x16x128x1, .f32⟩
  | .hbm, ⟨55, _⟩ => ⟨S2x16x128x128, .f32⟩
  | .hbm, ⟨56, _⟩ => ⟨S2x16x128x128, .f32⟩
  | .hbm, ⟨57, _⟩ => ⟨S1x1x128x1, .i1⟩
  | .hbm, ⟨58, _⟩ => ⟨S_, .f32⟩
  | .hbm, ⟨59, _⟩ => ⟨S_, .f32⟩
  | .hbm, ⟨60, _⟩ => ⟨S2x16x128x128, .i1⟩
  | .hbm, ⟨61, _⟩ => ⟨S2x16x128x128, .f32⟩
  | .hbm, ⟨62, _⟩ => ⟨S2x16x128x128, .f32⟩
  | .hbm, ⟨63, _⟩ => ⟨S2x16x64x128, .f32⟩
  | .hbm, ⟨64, _⟩ => ⟨S2x128x16x64, .f32⟩
  | .hbm, ⟨65, _⟩ => ⟨S2x128x1024, .f32⟩
  | .hbm, ⟨66, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Proto.lean ====
/- The cross-device protocol of the attention kernel: who waits on which semaphore, who pays it, and what each landing hands over. -/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Rounds
public import Idealize.ShloMosaic.Lib.Memref
public import Idealize.ShloMosaic.Lib.Tactic

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Partners and transfers -/

/-- The neighbour in direction 0 differs in the last bit, the neighbour in direction 1 is the mirror image. -/
def pd (d : Fin 2) (c : Dev nD) : Dev nD :=
  if d = 0 then ⟨c.val ^^^ 1, by revert c; decide⟩ else ⟨3 - c.val, by revert c; decide⟩

/-- The neighbour's neighbour in the same direction is the device itself. -/
theorem pd_pd (d : Fin 2) (c : Dev nD) : pd d (pd d c) = c := by revert d c; decide

/-- A transfer: batch entry, phase, chunk of 32 rows. -/
abbrev T : Type := Fin 2 × Fin 2 × Fin 4

/-- The direction in which a batch entry's phase exchanges. -/
def dir (t : T) : Fin 2 := t.1 + t.2.1

/-- The partner of device `c` in transfer `t`. -/
def pt (t : T) (c : Dev nD) : Dev nD := pd (dir t) c

/-- The partner's partner in a transfer is the device itself. -/
theorem pt_pt (t : T) (c : Dev nD) : pt t (pt t c) = c := pd_pd _ _

/-- The place of a transfer in the order in which a device starts them. -/
def ord (t : T) : ℕ := 8 * t.2.1.val + 4 * t.1.val + t.2.2.val

/-- Different transfers start at different places in the order. -/
theorem ord_inj : ∀ t t' : T, ord t = ord t' → t = t' := by decide
/-- There are sixteen places in the order. -/
theorem ord_lt : ∀ t : T, ord t < 16 := by decide

/-- The barrier semaphore. -/
abbrev barS : Sem sig := (SemArray.scalar (sig.barrier 0 rfl) : Sems sig S_).sem
/-- The semaphore that counts a transfer's departure. -/
def sendS (t : T) : DmaSem sig := ⟨6 + 16 * t.1.val + 4 * t.2.1.val + t.2.2.val, by revert t; decide⟩
/-- The semaphore that counts a transfer's arrival. -/
def recvS (t : T) : DmaSem sig := ⟨14 + 16 * t.1.val + 4 * t.2.1.val + t.2.2.val, by revert t; decide⟩

/-- The transfer a DMA semaphore belongs to, and whether it is a receive semaphore. -/
def tOf (s : DmaSem sig) : T :=
  (⟨(s.val - 6) / 16 % 2, Nat.mod_lt _ (by decide)⟩, ⟨(s.val - 6) / 4 % 2, Nat.mod_lt _ (by decide)⟩, ⟨(s.val - 6) % 4, Nat.mod_lt _ (by decide)⟩)
/-- Whether a DMA semaphore counts arrivals. -/
def isRecv (s : DmaSem sig) : Bool := 6 ≤ s.val && (s.val - 6) / 8 % 2 == 1

/-- The send semaphore of a transfer belongs to that transfer. -/
theorem tOf_send : ∀ t : T, tOf (sendS t) = t := by decide
/-- The receive semaphore of a transfer belongs to that transfer. -/
theorem tOf_recv : ∀ t : T, tOf (recvS t) = t := by decide
/-- A send semaphore does not count arrivals. -/
theorem isRecv_send : ∀ t : T, isRecv (sendS t) = false := by decide
/-- A receive semaphore counts arrivals. -/
theorem isRecv_recv : ∀ t : T, isRecv (recvS t) = true := by decide
/-- The send semaphores come after the first six DMA semaphores. -/
theorem six_send : ∀ t : T, 6 ≤ (sendS t).val := by decide
/-- The receive semaphores come after the first six DMA semaphores. -/
theorem six_recv : ∀ t : T, 6 ≤ (recvS t).val := by decide

/-- The barrier semaphore of device `c`. -/
abbrev barCell (c : Dev nD) : GSem nD τ sig := ((c : Thread nD τ), .reg barS)
/-- The send semaphore of transfer `t` on device `c`. -/
abbrev sendCell (t : T) (c : Dev nD) : GSem nD τ sig := ((c : Thread nD τ), .dma (sendS t))
/-- The receive semaphore of transfer `t` on device `c`. -/
abbrev recvCell (t : T) (c : Dev nD) : GSem nD τ sig := ((c : Thread nD τ), .dma (recvS t))

/-! ## The buffers, in chunks -/

/-- The accumulator, which is the staged result. -/
abbrev outM : Memref sig .tc .vmem S2x128x512 .f32 := Memref.whole cc0_stg5_0
/-- The staging buffer, in the 16-bit format. -/
abbrev stgM : Memref sig .tc .vmem S2x128x512 .bf16 := Memref.whole cc0_scratch1
/-- The receive buffer of a batch entry, with one plane for each phase. -/
def commM : Fin 2 → Memref sig .tc .vmem S2x128x512 .bf16
  | 0 => Memref.whole cc0_scratch2
  | 1 => Memref.whole cc0_scratch3

/-- The first index of chunk `k` of plane `b`. -/
abbrev off (b : Fin 2) (k : Fin 4) : Fin S2x128x512.rank → ℕ := ![b.val, 32 * k.val, 0]
/-- Every chunk lies inside the array. -/
theorem off_inb : ∀ (b : Fin 2) (k : Fin 4) (a : Fin S2x128x512.rank), off b k a + S1x32x512.size a ≤ S2x128x512.size a := by decide
/-- Rows `32k … 32k+31` of plane `b`. -/
abbrev chR (b : Fin 2) (k : Fin 4) : Rect S2x128x512 := Rect.unit (s := S2x128x512) (off b k) S1x32x512.size (off_inb b k)

/-- The chunk of an array. -/
abbrev cut {α : Type} (X : S2x128x512.Idx → α) (b : Fin 2) (k : Fin 4) : S1x32x512.Idx → α := fun j => X ((chR b k).emb j)

/-- The batch entry of an index. -/
def plane (i : S2x128x512.Idx) : Fin 2 := i (0 : Fin 3)

/-- An index of a chunk of plane `b` lies in plane `b`. -/
theorem emb_plane (b : Fin 2) (k : Fin 4) (j : S1x32x512.Idx) : plane ((chR b k).emb j) = b := by
  apply Fin.ext
  show b.val + 1 * (j (0 : Fin 3)).val = b.val
  have := (j (0 : Fin 3)).isLt
  have h : S1x32x512.size (0 : Fin 3) = 1 := rfl
  omega

/-- The ghost state of the protocol's rounds. -/
abbrev UB : Type := Rounds.URounds (GSem nD τ sig) (Fin 2)
/-- All ghost state: the pipeline's and the protocol's. -/
abbrev UU : Type := UR sig nD τ × UB

local notation "𝕄" => MT nD τ sig Unit (Elt F) ℕ UU ℕ

/-- The pipeline's ghost state within all of it. -/
abbrev EP : Emb (UR sig nD τ) (MT nD τ sig Unit (Elt F) ℕ UU ℕ) := embL
/-- The protocol's ghost state within all of it. -/
abbrev ER : Emb UB (MT nD τ sig Unit (Elt F) ℕ UU ℕ) := embR

/-- A chunk of device `c`'s accumulator, staging buffer, receive buffers at named contents. -/
abbrev Och (c : Dev nD) (b : Fin 2) (k : Fin 4) (X : S1x32x512.Idx → Elt F .f32) : sProp 𝕄 :=
  owns (c : Thread nD τ) (outM.slice (chR b k) (fun _ => rfl)) fullShare X
/-- A chunk of device `c`'s staging buffer at named contents. -/
abbrev Sch (c : Dev nD) (b : Fin 2) (k : Fin 4) (X : S1x32x512.Idx → Elt F .bf16) : sProp 𝕄 :=
  owns (c : Thread nD τ) (stgM.slice (chR b k) (fun _ => rfl)) fullShare X
/-- A chunk of device `c`'s receive buffer for batch entry `b`, phase `p`, at named contents. -/
abbrev Cch (c : Dev nD) (b p : Fin 2) (k : Fin 4) (X : S1x32x512.Idx → Elt F .bf16) : sProp 𝕄 :=
  owns (c : Thread nD τ) ((commM b).slice (chR p k) (fun _ => rfl)) fullShare X

/-! ## Contents: the accumulator after a number of phases, and what is staged -/

variable (P : Dev nD → S2x128x512.Idx → Elt F .f32)

/-- The accumulator of every device after `n` phases, from the partial outputs `P`. -/
def acc : ℕ → Dev nD → S2x128x512.Idx → Elt F .f32
  | 0, c, i => P c i
  | n + 1, c, i => FloatOps.addf (acc n c i) (FloatOps.extf (φ := .bf16) .f32 bitsLt_bf16_f32
      (FloatOps.truncf (φ := .f32) .bf16 bitsLt_bf16_f32 (acc n (pd (plane i + Fin.ofNat 2 n) c) i)))
/-- What is staged after `n` phases. -/
def stg (n : ℕ) (c : Dev nD) (i : S2x128x512.Idx) : Elt F .bf16 := FloatOps.truncf (φ := .f32) .bf16 bitsLt_bf16_f32 (acc P n c i)

/-! ## The schedule -/

/-- What the copy of one chunk credits to a semaphore. -/
abbrev N : ℕ := (stgM.slice (chR 0 0) (fun _ => rfl)).view.dmaCredit
/-- The copy of a chunk credits something. -/
theorem N_pos : 0 < N := View.dmaCredit_pos _ (by decide)

/-- A receive chunk of device `q`, and that its receive semaphore is ready. -/
def slot (t : T) (q : Dev nD) : sProp 𝕄 := iprop((∃ X, Cch q t.1 t.2.1 t.2.2 X) ∗ reached ER (recvCell t q) 0)
/-- What the neighbour in direction `d` pays to the barrier of `c`: all its receive chunks that `c` writes to. -/
def barPay (d : Fin 2) (c : Dev nD) : sProp 𝕄 :=
  bigSep Finset.univ fun x : Fin 2 × Fin 4 => slot (x.1, x.1 + d, x.2) (pd d c)
/-- A landed chunk: what the partner staged. -/
def recvPay (t : T) (c : Dev nD) : sProp 𝕄 := Cch c t.1 t.2.1 t.2.2 (cut (stg P t.2.1.val (pt t c)) t.1 t.2.2)
/-- The staged chunk back. -/
def sendPay (t : T) (c : Dev nD) : sProp 𝕄 := Sch c t.1 t.2.2 (cut (stg P t.2.1.val c) t.1 t.2.2)

/-- Who pays a semaphore: both neighbours the barrier, one copy each transfer's semaphore, nobody the others. -/
def dutiesOf : SemLoc sig → Finset (Fin 2)
  | .reg _ => Finset.univ
  | .dma s => if 6 ≤ s.val then {0} else ∅
/-- What one payment adds: a unit on the barrier, a chunk's credit elsewhere. -/
def amountOf : SemLoc sig → ℕ
  | .reg _ => 1
  | .dma _ => N
/-- What a payment hands over on device `c`. -/
def payOf (c : Dev nD) (d : Fin 2) : SemLoc sig → sProp 𝕄
  | .reg _ => barPay d c
  | .dma s => if isRecv s then recvPay P (tOf s) c else sendPay P (tOf s) c

/-- One round on every cell: two duties on the barrier, one on every send and receive semaphore. -/
def Rd : Rounds.Schedule (GSem nD τ sig) (Fin 2) 𝕄 where
  duties g r := if r = 0 ∧ g.1.2 = .tc then dutiesOf g.2 else ∅
  unitless _ := False
  amount g _ _ := amountOf g.2
  payload g _ d := payOf P g.1.1 d g.2
  amount_pos g _ _ _ := by
    rcases g with ⟨g1, s | s⟩
    · exact Nat.one_pos
    · exact N_pos

/-- Every payment can be kept in an invariant. -/
instance Rd_payload_storable (g : GSem nD τ sig) (r : ℕ) (d : Fin 2) :
    BI.Storable (upEmb : UEmb _ 𝕄) ((Rd P).payload g r d) := by
  show BI.Storable upEmb (payOf P g.1.1 d g.2)
  rcases g with ⟨g1, s | s⟩
  · show BI.Storable upEmb (barPay d g1.1)
    unfold barPay slot
    infer_instance
  · show BI.Storable upEmb (if isRecv s then recvPay P (tOf s) g1.1 else sendPay P (tOf s) g1.1)
    unfold recvPay sendPay
    split <;> infer_instance

/-- The barrier is paid from both directions. -/
theorem duties_bar (c : Dev nD) : (Rd P).duties (barCell c) 0 = Finset.univ := by dsimp only [Rd]; exact if_pos ⟨rfl, rfl⟩
/-- A send semaphore is paid once. -/
theorem duties_send (t : T) (c : Dev nD) : (Rd P).duties (sendCell t c) 0 = {0} := by
  dsimp only [Rd]; rw [if_pos ⟨rfl, rfl⟩]; exact if_pos (six_send t)
/-- A receive semaphore is paid once. -/
theorem duties_recv (t : T) (c : Dev nD) : (Rd P).duties (recvCell t c) 0 = {0} := by
  dsimp only [Rd]; rw [if_pos ⟨rfl, rfl⟩]; exact if_pos (six_recv t)
/-- After the first round nothing is paid. -/
theorem duties_later (g : GSem nD τ sig) : ∀ r, 1 ≤ r → (Rd P).duties g r = ∅ :=
  fun r hr => by dsimp only [Rd]; rw [if_neg (fun h => by omega)]

/-- A payment to the barrier is one unit. -/
theorem amount_bar (c : Dev nD) (d : Fin 2) : (Rd P).amount (barCell c) 0 d = 1 := rfl
/-- A payment to a send semaphore is a chunk's credit. -/
theorem amount_send (t : T) (c : Dev nD) (d : Fin 2) : (Rd P).amount (sendCell t c) 0 d = N := rfl
/-- A payment to a receive semaphore is a chunk's credit. -/
theorem amount_recv (t : T) (c : Dev nD) (d : Fin 2) : (Rd P).amount (recvCell t c) 0 d = N := rfl

/-- A full round of the barrier counts two. -/
theorem expect_bar (c : Dev nD) : (Rd P).expect (barCell c) 0 = 2 := by
  unfold Schedule.expect Schedule.amountOf; rw [duties_bar]; rfl
/-- A full round of a send semaphore counts one chunk. -/
theorem expect_send (t : T) (c : Dev nD) : (Rd P).expect (sendCell t c) 0 = N := by
  unfold Schedule.expect Schedule.amountOf; rw [duties_send, Finset.sum_singleton, amount_send]
/-- A full round of a receive semaphore counts one chunk. -/
theorem expect_recv (t : T) (c : Dev nD) : (Rd P).expect (recvCell t c) 0 = N := by
  unfold Schedule.expect Schedule.amountOf; rw [duties_recv, Finset.sum_singleton, amount_recv]

/-- The barrier is paid with the neighbour's receive chunks. -/
theorem payload_bar (c : Dev nD) (d : Fin 2) : (Rd P).payload (barCell c) 0 d = barPay d c := rfl
/-- A send semaphore is paid with the staged chunk. -/
theorem payload_send (t : T) (c : Dev nD) (d : Fin 2) : (Rd P).payload (sendCell t c) 0 d = sendPay P t c := by
  show payOf P c d (.dma (sendS t)) = _
  unfold payOf; simp only [isRecv_send, tOf_send]; rfl
/-- A receive semaphore is paid with the landed chunk. -/
theorem payload_recv (t : T) (c : Dev nD) (d : Fin 2) : (Rd P).payload (recvCell t c) 0 d = recvPay P t c := by
  show payOf P c d (.dma (recvS t)) = _
  unfold payOf; simp only [isRecv_recv, tOf_recv]; rfl

/-- A full round of the barrier hands over what both neighbours pay. -/
theorem rest_bar (c : Dev nD) : bigSep ((Rd P).duties (barCell c) 0 \ ∅) (fun u => (Rd P).payload (barCell c) 0 u)
    = (iprop(barPay 0 c ∗ barPay 1 c) : sProp 𝕄) := by
  rw [Finset.sdiff_empty, duties_bar]
  exact BI.bigSep_fin_two (fun d : Fin 2 => (barPay d c : sProp 𝕄))
/-- A full round of a send semaphore hands over the staged chunk. -/
theorem rest_send (t : T) (c : Dev nD) : bigSep ((Rd P).duties (sendCell t c) 0 \ ∅) (fun u => (Rd P).payload (sendCell t c) 0 u) = sendPay P t c := by
  rw [Finset.sdiff_empty, duties_send, bigSep_singleton, payload_send]
/-- A full round of a receive semaphore hands over the landed chunk. -/
theorem rest_recv (t : T) (c : Dev nD) : bigSep ((Rd P).duties (recvCell t c) 0 \ ∅) (fun u => (Rd P).payload (recvCell t c) 0 u) = recvPay P t c := by
  rw [Finset.sdiff_empty, duties_recv, bigSep_singleton, payload_recv]

/-! ## Dues and levels -/

/-- The receive credits device `c` still owes before its `n`-th transfer. -/
def due (c : Dev nD) (n : ℕ) : CellTallies nD τ sig Unit :=
  ∑ t ∈ Finset.univ.filter (fun t : T => n ≤ ord t), tallyAt (recvCell t (pt t c)) () N
/-- At launch also one barrier unit for each neighbour. -/
def O₀ (c : Dev nD) : CellTallies nD τ sig Unit := (due c 0 + tallyAt (barCell (pd 1 c)) () 1) + tallyAt (barCell (pd 0 c)) () 1

/-- Starting a transfer settles its arrival at the partner and leaves the later ones owed. -/
theorem due_step (t : T) (c : Dev nD) : due c (ord t) = due c (ord t + 1) + tallyAt (recvCell t (pt t c)) () N := by
  unfold due
  rw [show (Finset.univ.filter fun t' : T => ord t ≤ ord t') = insert t (Finset.univ.filter fun t' : T => ord t + 1 ≤ ord t') from by
      revert t; decide, Finset.sum_insert (by simp), add_comm]
/-- After all sixteen transfers nothing is owed. -/
theorem due_end (c : Dev nD) : due c 16 = 0 := by
  unfold due
  rw [show (Finset.univ.filter fun t : T => 16 ≤ ord t) = ∅ from by decide, Finset.sum_empty]

/-- Only the semaphores of a device's TensorCore carry a level. -/
def L (g : GSem nD τ sig) : Finset Unit := if g.1.2 = .tc then {()} else ∅
/-- The level of a semaphore: sends lowest, then the barrier, then the arrivals in the order of their transfers. -/
def lvOf : SemLoc sig → ℕ
  | .reg _ => 1
  | .dma s => if isRecv s then 2 + ord (tOf s) else 0
/-- The level of a semaphore of any device. -/
def lv (g : GSem nD τ sig) (_ : Unit) : ℕ := lvOf g.2

/-- A semaphore of another processor carries no level. -/
theorem L_of_ne (g : GSem nD τ sig) (h : g.1.2 ≠ .tc) : L g = ∅ := if_neg h
/-- A semaphore of a TensorCore carries a level. -/
theorem L_tc (c : Dev nD) (sm : SemLoc sig) : L ((c : Thread nD τ), sm) = {()} := if_pos rfl
/-- The level of an arrival grows with the place of its transfer. -/
theorem lv_recv (t : T) (c : Dev nD) : lv (recvCell t c) () = 2 + ord t := by
  show (if isRecv (recvS t) then 2 + ord (tOf (recvS t)) else 0) = _
  rw [isRecv_recv, tOf_recv]; rfl
/-- A departure has level 0. -/
theorem lv_send (t : T) (c : Dev nD) : lv (sendCell t c) () = 0 := by
  show (if isRecv (sendS t) then 2 + ord (tOf (sendS t)) else 0) = _
  rw [isRecv_send]; rfl

/-- What is owed from the `n`-th transfer on is an arrival of such a transfer at its partner. -/
theorem due_pos {c : Dev nD} {n : ℕ} {g : GSem nD τ sig} {u : Unit} (h : 0 < due c n g u) : ∃ t, n ≤ ord t ∧ g = recvCell t (pt t c) := by
  by_contra hne
  push Not at hne
  refine absurd h (Nat.not_lt.2 (le_of_eq ?_))
  unfold due
  rw [show (∑ t ∈ Finset.univ.filter (fun t : T => n ≤ ord t), tallyAt (recvCell t (pt t c)) () N) g u
      = ∑ t ∈ Finset.univ.filter (fun t : T => n ≤ ord t), tallyAt (recvCell t (pt t c)) () N g u from by
    simp only [Finset.sum_apply, Finsupp.finset_sum_apply]]
  refine Finset.sum_eq_zero fun t ht => ?_
  rw [tallyAt_apply, if_neg]
  exact fun h => hne t (Finset.mem_filter.mp ht).2 h.1

/-- A wait below everything still owed. -/
theorem mayWait_of (c : Dev nD) (s : SemLoc sig) (n : ℕ) (hs : lvOf s < 2 + n) :
    (levAts L lv : sProp 𝕄) ⊢ MayWait (c : Thread nD τ) s () (due c n) :=
  MayOwe.of_cut (L := L) (lev := lv) (1 + n) (fun p hp => by rw [Finset.mem_singleton.mp hp, L_tc]; exact Finset.mem_singleton_self _)
    (fun g u hg => by obtain ⟨t, -, rfl⟩ := due_pos hg; rw [L_tc]; exact Finset.mem_singleton_self _)
    (fun p hp => by rw [Finset.mem_singleton.mp hp]; show lvOf s ≤ _; omega)
    (fun g u hg => by obtain ⟨t, ht, rfl⟩ := due_pos hg; show _ < lv _ (); rw [lv_recv]; omega)

end Cert.KernelIdeal.Talk
-- ==== Proof.Steps.lean ====
/- One step of the exchange at a time: a chunk loaded, stored, sent, and waited for. -/
module

public import proofs.«01_k».proof.Proof.Proto

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The kernel has no loop that needs a measure. -/
abbrev 𝒱₀ : Variants := Variants.none

/-- The weakest precondition of a program of the kernel on device `c`. -/
abbrev wpk (c : Dev nD) (e : Prog (TpuEff nD τ sig (Elt F) Λ₀ .tc) PUnit.{1}) (Q : PUnit.{1} → sProp 𝕄) : sProp 𝕄 :=
  wp frame (wpE (defs₀ (F := F)) 𝒱₀ (c : Thread nD τ) none) Set.univ e Q

/-! ## Loads and stores of an owned part -/

section Part

variable {s : Shape} {e : EltTy} (c : Dev nD) {M : Memref sig .tc .vmem s e} {r : Rect s} {hr : ∀ a, r.stride a = 1} {Q : PUnit.{1} → sProp (MT nD τ sig Unit (Elt F) ℕ UU ℕ)}

/-- A load of a part that is owned returns its contents and leaves them. -/
theorem load_part {X : r.shape.Idx → Elt F e} {hl : M.view.LoadsAt r.toLoadRect} {k : (r.shape.Idx → Elt F e) → Prog (TpuEff nD τ sig (Elt F) Λ₀ .tc) PUnit.{1}} :
    (owns (c : Thread nD τ) (M.slice r hr) fullShare X : sProp 𝕄)
      ⊢ iprop((owns (c : Thread nD τ) (M.slice r hr) fullShare X -∗ wpk c (k X) Q) -∗ wpk c (.op (.load M r.toLoadRect hl) k) Q) := by
  iintro H Hk
  ihave H' := (Entails.of_eq (show (owns (c : Thread nD τ) (M.slice r hr) fullShare X : sProp 𝕄)
    = iprop(∃ f, ⌜(M.slice r hr).view.read (Elt F) f = X⌝ ∗ ((M.slice r hr).view.loc (c : Thread nD τ) ↦[(M.slice r hr).view.set]{fullShare} f)) from rfl)) $$ H
  icases H' with ⟨%f, %hf, H⟩
  subst hf
  iapply (wp_load_rect (defs := defs₀ (F := F)) 𝒱₀ (c : Thread nD τ) none Set.univ (m := M) (r := r) (f := f) (S := (M.access r).set) (Finset.Subset.refl _)) $$ H
  iintro H
  iapply Hk
  iapply (owns_intro (c : Thread nD τ) (M.slice r hr) fullShare f)
  iexact H

/-- A store to a part that is owned replaces its contents. -/
theorem store_part {X : r.shape.Idx → Elt F e} {w : r.shape.Idx → Elt F e} {hx : (M.access r).Stores Finset.univ} {hm : (Finset.univ : Finset r.shape.Idx) = Finset.univ ∨ ∀ a, r.stride a = 1}
    {k : PUnit.{1} → Prog (TpuEff nD τ sig (Elt F) Λ₀ .tc) PUnit.{1}} :
    (owns (c : Thread nD τ) (M.slice r hr) fullShare X : sProp 𝕄)
      ⊢ iprop((owns (c : Thread nD τ) (M.slice r hr) fullShare w -∗ wpk c (k ⟨⟩) Q) -∗ wpk c (.op (.store M r w Finset.univ hx hm) k) Q) := by
  iintro H Hk
  ihave H' := (Entails.of_eq (show (owns (c : Thread nD τ) (M.slice r hr) fullShare X : sProp 𝕄)
    = iprop(∃ f, ⌜(M.slice r hr).view.read (Elt F) f = X⌝ ∗ ((M.slice r hr).view.loc (c : Thread nD τ) ↦[(M.slice r hr).view.set]{fullShare} f)) from rfl)) $$ H
  icases H' with ⟨%f, %hf, H⟩
  iapply (wp_store (defs := defs₀ (F := F)) 𝒱₀ (c : Thread nD τ) none Set.univ (m := M) (r := r) (w := w) (hx := hx) (hm := hm) (f := f) (S := (M.access r).set)
    (by rw [View.setOn_univ])) $$ H
  iintro H
  iapply Hk
  ihave H2 := (owns_intro (c : Thread nD τ) (M.slice r hr) fullShare ((M.access r).write (Elt F) f w Finset.univ)) $$ H
  rw [show (M.slice r hr).view.read (Elt F) ((M.access r).write (Elt F) f w Finset.univ) = w from View.read_write_univ _ _]
  iexact H2

end Part

/-! ## The state of a transfer -/

variable (P : Dev nD → S2x128x512.Idx → Elt F .f32)

/-- The kernel's own semaphores are in range. -/
theorem osem_lt (i : Fin 32) : 6 + i.val < 38 := by omega
/-- The kernel's own semaphores. -/
def osem (i : Fin 32) : SemLoc sig := .dma (⟨6 + i.val, osem_lt i⟩ : DmaSem sig)
/-- The kernel's own semaphores are all different. -/
theorem osem_inj : Function.Injective osem := by
  intro i j h
  unfold osem at h
  injection h with h
  exact Fin.ext (by have := congrArg Fin.val h; simp only at this; omega)

/-- The barrier of each device. -/
def barEmb : Dev nD ↪ GSem nD τ sig := ⟨fun c => barCell c, fun _ _ h => congrArg (fun g : GSem nD τ sig => g.1.1) h⟩
/-- The transfer semaphores of each device. -/
def scEmb : Dev nD × Fin 32 ↪ GSem nD τ sig :=
  ⟨fun ck => ((ck.1 : Thread nD τ), osem ck.2), fun _ _ h =>
    Prod.ext (congrArg (fun g : GSem nD τ sig => g.1.1) h) (osem_inj (congrArg Prod.snd h))⟩
/-- All barriers. -/
abbrev barCells : Finset (GSem nD τ sig) := Finset.univ.map barEmb
/-- All transfer semaphores. -/
abbrev scCells : Finset (GSem nD τ sig) := Finset.univ.map scEmb

/-- The number of a send semaphore among the kernel's own. -/
def sendIx (t : T) : Fin 32 := ⟨16 * t.1.val + 4 * t.2.1.val + t.2.2.val, by revert t; decide⟩
/-- The number of a receive semaphore among the kernel's own. -/
def recvIx (t : T) : Fin 32 := ⟨8 + 16 * t.1.val + 4 * t.2.1.val + t.2.2.val, by revert t; decide⟩
/-- That number names the send semaphore. -/
theorem osem_send (t : T) : osem (sendIx t) = .dma (sendS t) := by revert t; decide
/-- That number names the receive semaphore. -/
theorem osem_recv (t : T) : osem (recvIx t) = .dma (recvS t) := by revert t; decide

/-- Every invariant of the protocol. -/
def Inv (K : GSem nD τ sig → ℕ) : sProp 𝕄 := bigSep (barCells ∪ scCells) fun g => cellInv ER (Rd P) (K g) g

/-- The invariants may be used any number of times. -/
instance Inv_persistent (K : GSem nD τ sig → ℕ) : BI.Persistent (Inv P K) := by unfold Inv; infer_instance

/-- The invariant of a barrier is among them. -/
theorem inv_bar (K : GSem nD τ sig → ℕ) (c : Dev nD) : Inv P K ⊢ cellInv ER (Rd P) (K (barCell c)) (barCell c) :=
  bigSep_elim (Finset.mem_union_left _ (Finset.mem_map_of_mem barEmb (Finset.mem_univ c)))
/-- The invariant of a send semaphore is among them. -/
theorem inv_send (K : GSem nD τ sig → ℕ) (t : T) (c : Dev nD) : Inv P K ⊢ cellInv ER (Rd P) (K (sendCell t c)) (sendCell t c) :=
  bigSep_elim (Finset.mem_union_right _ (by
    have := Finset.mem_map_of_mem scEmb (Finset.mem_univ (c, sendIx t))
    rwa [show scEmb (c, sendIx t) = sendCell t c from Prod.ext rfl (osem_send t)] at this))
/-- The invariant of a receive semaphore is among them. -/
theorem inv_recv (K : GSem nD τ sig → ℕ) (t : T) (c : Dev nD) : Inv P K ⊢ cellInv ER (Rd P) (K (recvCell t c)) (recvCell t c) :=
  bigSep_elim (Finset.mem_union_right _ (by
    have := Finset.mem_map_of_mem scEmb (Finset.mem_univ (c, recvIx t))
    rwa [show scEmb (c, recvIx t) = recvCell t c from Prod.ext rfl (osem_recv t)] at this))

/-- What a device holds of a transfer throughout: its two positions and the credit it waits with. -/
def idle (t : T) (c : Dev nD) : sProp 𝕄 :=
  iprop(atPos ER (sendCell t c) 0 ∅ 0 ∗ atPos ER (recvCell t c) 0 ∅ 0 ∗ cred (tallyAt (recvCell t c) () N))
/-- Before the barrier: the tokens the copy pays with. -/
def fresh (t : T) (c : Dev nD) : sProp 𝕄 :=
  iprop(dutyTok ER (sendCell t c) 0 0 ∗ dutyTok ER (recvCell t (pt t c)) 0 0 ∗ reached ER (sendCell t c) 0 ∗ idle t c)
/-- After the barrier: the receive chunk of the partner too. -/
def ready (t : T) (c : Dev nD) : sProp 𝕄 := iprop(slot t (pt t c) ∗ fresh t c)
/-- The copy started. -/
def sent (t : T) (c : Dev nD) : sProp 𝕄 := iprop(cred (tallyAt (sendCell t c) () N) ∗ idle t c)
/-- The copy out and the copy in complete. -/
def done (t : T) (c : Dev nD) : sProp 𝕄 := iprop(atPos ER (sendCell t c) (0 + 1) ∅ 0 ∗ atPos ER (recvCell t c) (0 + 1) ∅ 0)
/-- Owing the credits from the `n`-th transfer on. -/
def owesN (c : Dev nD) (n : ℕ) : sProp 𝕄 := iprop(∃ W, owes (c : Thread nD τ) (due c n) W)

section Xfer

variable (K : GSem nD τ sig → ℕ) (c : Dev nD) {b p : Fin 2} {k : Fin 4} {Q : PUnit.{1} → sProp (MT nD τ sig Unit (Elt F) ℕ UU ℕ)}
variable {o o' : Fin S2x128x512.rank → ℕ} {inb : ∀ a, o a + S1x32x512.size a ≤ S2x128x512.size a} {inb' : ∀ a, o' a + S1x32x512.size a ≤ S2x128x512.size a}
variable {cm : Memref sig .tc .vmem S2x128x512 .bf16} {sS rS : DmaSem sig} {n : Dev nD}
variable {kk : PUnit.{1} → Prog (TpuEff nD τ sig (Elt F) Λ₀ .tc) PUnit.{1}}
variable {h₁ : ∀ a, (Rect.unit (s := S2x128x512) o S1x32x512.size inb).stride a = 1} {h₂ : ∀ a, (Rect.unit (s := S2x128x512) o' S1x32x512.size inb').stride a = 1}

/-- A chunk copied between squeezed views reads at the destination as at the source. -/
theorem landed {M M' : Memref sig .tc .vmem S2x128x512 .bf16}
    (hq : (Rect.unit (s := S2x128x512) o S1x32x512.size inb).shape.Squeezes S32x512) (hq' : (Rect.unit (s := S2x128x512) o' S1x32x512.size inb').shape.Squeezes S32x512)
    (f : M.view.ty.Contents (Elt F)) (fd : M'.view.ty.Contents (Elt F)) :
    (M'.slice (Rect.unit (s := S2x128x512) o' S1x32x512.size inb') h₂).view.read (Elt F)
      (((M'.slice (Rect.unit (s := S2x128x512) o' S1x32x512.size inb') h₂).squeeze S32x512 hq').view.write (Elt F) fd
        (((M.slice (Rect.unit (s := S2x128x512) o S1x32x512.size inb) h₁).squeeze S32x512 hq).view.read (Elt F) f) Finset.univ)
      = (M.slice (Rect.unit (s := S2x128x512) o S1x32x512.size inb) h₁).view.read (Elt F) f := by
  refine (congrArg _ (View.write_reshape_univ _ _ _ _)).trans ?_
  refine (View.read_write_univ _ _).trans ?_
  funext j
  show (M.slice (Rect.unit (s := S2x128x512) o S1x32x512.size inb) h₁).view.read (Elt F) f (Shape.reshapeEquiv _ ((Shape.reshapeEquiv _).symm j)) = _
  rw [Equiv.apply_symm_apply]

/-- A chunk is sent to the partner. -/
theorem send_step (hn : n = pt (b, p, k) c) (ho : o = off b k) (ho' : o' = off p k) (hcm : cm = commM b) (hs : sS = sendS (b, p, k)) (hrs : rS = recvS (b, p, k))
    {hq : (Rect.unit (s := S2x128x512) o S1x32x512.size inb).shape.Squeezes S32x512} {hq' : (Rect.unit (s := S2x128x512) o' S1x32x512.size inb').shape.Squeezes S32x512}
    {hsc} {e₁} {e₂} {e₃} :
    iprop(Inv P K ∗ ready (b, p, k) c ∗ Sch c b k (cut (stg P p.val c) b k) ∗ owesN c (ord (b, p, k)))
      ⊢ iprop(((sent (b, p, k) c ∗ owesN c (ord (b, p, k) + 1)) -∗ wpk c (kk ⟨⟩) Q)
        -∗ wpk c (.op (.enqueueDma ((stgM.slice (Rect.unit (s := S2x128x512) o S1x32x512.size inb) h₁).squeeze S32x512 hq)
          (.remote (Dev.tc n) ((cm.slice (Rect.unit (s := S2x128x512) o' S1x32x512.size inb') h₂).squeeze S32x512 hq') (.dma sS) hsc) (.dma rS) e₁ e₂ e₃) kk) Q) := by
  subst hn ho ho' hcm hs hrs
  iintro ⟨#HI, Hr, HS, HO⟩ Hk
  unfold ready slot fresh owesN
  icases Hr with ⟨⟨⟨%Z, HC⟩, #HrN⟩, HtS, HtN, #HrS, Hid⟩
  icases HO with ⟨%W, HO⟩
  unfold Sch Cch owns
  icases HS with ⟨%f, %hf, HS⟩
  icases HC with ⟨%g, -, HC⟩
  iapply (Rounds.wp_send_pointsTo 𝒱₀ ER (Rd P) (c : Thread nD τ) none (c' := (pt (b, p, k) c : Thread nD τ))
      (src := ((stgM.slice (chR b k) h₁).squeeze S32x512 hq)) (dst := (((commM b).slice (chR p k) h₂).squeeze S32x512 hq'))
      (sS := .dma (sendS (b, p, k))) (sem := .dma (recvS (b, p, k))) (q := fullShare) (fs := f) (fd := g)
      (κ₁ := K (sendCell (b, p, k) c)) (κ₂ := K (recvCell (b, p, k) (pt (b, p, k) c)))
      (r₁ := 0) (r₂ := 0) (d₁ := 0) (d₂ := 0)
      (by rw [duties_send]; exact Finset.mem_singleton_self _) (by rw [duties_recv]; exact Finset.mem_singleton_self _)
      () () N rfl (amount_send P _ _ _) (amount_recv P _ _ _) (due c (ord (b, p, k) + 1)) (due_step _ _) (W := W)
      (by
        rw [payload_send]; unfold sendPay Sch owns
        rw [Memref.set_view_squeeze]
        iintro H; iexists f; isplitr
        · ipureintro; exact hf
        · iexact H)
      (by
        rw [payload_recv]; unfold recvPay Cch owns
        rw [Memref.set_view_squeeze]
        iintro H; iexists _; isplitr
        rotate_left
        · iexact H
        · ipureintro
          rw [pt_pt]
          exact (landed hq hq' f g).trans hf)) $$ [HS HC HO HtS HtN]
  · isplitr; · iapply (inv_send P K _ c); iexact HI
    isplitr; · iapply (inv_recv P K _ _); iexact HI
    isplitl [HS]; · rw [Memref.set_view_squeeze]; iexact HS
    isplitl [HC]; · rw [Memref.set_view_squeeze]; iexact HC
    isplitl [HO]; · iexact HO
    isplitl [HtS]; · iexact HtS
    isplitr; · iexact HrS
    isplitl [HtN]; · iexact HtN
    iexact HrN
  iintro ⟨HcS, HO⟩
  iapply Hk
  unfold sent
  isplitl [HcS Hid]
  · isplitl [HcS] <;> iassumption
  iexists W; iexact HO

/-- The wait for the own copy to have left: the staged chunk comes back. -/
theorem wait_send_step (hs : sS = sendS (b, p, k)) {m : ℕ}
    {v v' : Memref sig .tc .vmem S32x512 .bf16} {e₁ e₂} (hv : v'.view.dmaCredit = N) :
    iprop(Inv P K ∗ levAts L lv ∗ sent (b, p, k) c ∗ owesN c m)
      ⊢ iprop(((atPos ER (sendCell (b, p, k) c) (0 + 1) ∅ 0 ∗ atPos ER (recvCell (b, p, k) c) 0 ∅ 0 ∗ cred (tallyAt (recvCell (b, p, k) c) () N)
          ∗ Sch c b k (cut (stg P p.val c) b k) ∗ owesN c m) -∗ wpk c (kk ⟨⟩) Q)
        -∗ wpk c (.op (.waitDma2 sS v v' e₁ e₂) kk) Q) := by
  subst hs
  iintro ⟨#HI, #Hlev, Hs, HO⟩ Hk
  unfold sent idle owesN
  icases Hs with ⟨Hc, HatS, HatR, HcR⟩
  icases HO with ⟨%W, HO⟩
  iapply (Rounds.wp_wait_rest_token 𝒱₀ ER (Rd P) (c : Thread nD τ) none (κ := K (sendCell (b, p, k) c))
      (wpE_waitDma2_eq 𝒱₀ (c : Thread nD τ) none Set.univ) (Set.mem_univ _) () (O := due c m) (W := W) (R := 0) (m := 0) (T := ∅)
      ((Nat.zero_add _).trans (hv.trans (expect_send P (b, p, k) c).symm))) $$ [Hc HO HatS]
  · isplitr; · iapply (inv_send P K _ c); iexact HI
    isplitl [Hc]; · rw [hv]; iexact Hc
    isplitl [HO]; · iexact HO
    isplitr
    · iapply (mayWait_of c (.dma (sendS (b, p, k))) m (by
        have : lvOf (.dma (sendS (b, p, k))) = 0 := lv_send (b, p, k) c
        omega))
      iexact Hlev
    iexact HatS
  iintro ⟨HO, HatS, -, Hpay⟩
  ihave HS := (Entails.of_eq ((rest_send P (b, p, k) c).trans (by unfold sendPay; rfl))) $$ Hpay
  iapply Hk
  isplitl [HatS]; · iexact HatS
  isplitl [HatR]; · iexact HatR
  isplitl [HcR]; · iexact HcR
  isplitl [HS]; · iexact HS
  iexists _; iexact HO

/-- The wait for the partner's copy to have landed: the receive chunk comes back at what the partner staged. -/
theorem wait_recv_step (hrs : rS = recvS (b, p, k)) {m : ℕ} (hm : ord (b, p, k) < m)
    {v v' : Memref sig .tc .vmem S32x512 .bf16} {e₁ e₂} (hv : v'.view.dmaCredit = N) :
    iprop(Inv P K ∗ levAts L lv ∗ atPos ER (recvCell (b, p, k) c) 0 ∅ 0 ∗ cred (tallyAt (recvCell (b, p, k) c) () N) ∗ owesN c m)
      ⊢ iprop(((atPos ER (recvCell (b, p, k) c) (0 + 1) ∅ 0
          ∗ Cch c b p k (cut (stg P p.val (pt (b, p, k) c)) b k) ∗ owesN c m) -∗ wpk c (kk ⟨⟩) Q)
        -∗ wpk c (.op (.waitDma2 rS v v' e₁ e₂) kk) Q) := by
  subst hrs
  iintro ⟨#HI, #Hlev, HatR, HcR, HO⟩ Hk
  unfold owesN
  icases HO with ⟨%W, HO⟩
  iapply (Rounds.wp_wait_rest_token 𝒱₀ ER (Rd P) (c : Thread nD τ) none (κ := K (recvCell (b, p, k) c))
      (wpE_waitDma2_eq 𝒱₀ (c : Thread nD τ) none Set.univ) (Set.mem_univ _) () (O := due c m) (W := W) (R := 0) (m := 0) (T := ∅)
      ((Nat.zero_add _).trans (hv.trans (expect_recv P (b, p, k) c).symm))) $$ [HcR HO HatR]
  · isplitr; · iapply (inv_recv P K _ c); iexact HI
    isplitl [HcR]; · rw [hv]; iexact HcR
    isplitl [HO]; · iexact HO
    isplitr
    · iapply (mayWait_of c (.dma (recvS (b, p, k))) m (by
        have : lvOf (.dma (recvS (b, p, k))) = 2 + ord (b, p, k) := lv_recv (b, p, k) c
        omega))
      iexact Hlev
    iexact HatR
  iintro ⟨HO, HatR, -, Hpay⟩
  ihave HC := (Entails.of_eq ((rest_recv P (b, p, k) c).trans (by unfold recvPay; rfl))) $$ Hpay
  iapply Hk
  isplitl [HatR]; · iexact HatR
  isplitl [HC]; · iexact HC
  iexists _; iexact HO

/-- The accumulated chunk. -/
theorem acc_step (p : Fin 2) (a : S1x32x512.Idx → Elt F .f32) (z : S1x32x512.Idx → Elt F .bf16)
    (ha : a = cut (acc P p.val c) b k) (hz : z = cut (stg P p.val (pt (b, p, k) c)) b k) (pv : S1x32x512.Idx → Elt F .f32)
    (hpv : pv = fun j => FloatOps.addf (a j) (FloatOps.extf (φ := .bf16) .f32 bitsLt_bf16_f32 (z j))) :
    pv = cut (acc P (p.val + 1) c) b k := by
  subst ha hz hpv
  funext j
  show FloatOps.addf (acc P p.val c _) (FloatOps.extf (φ := .bf16) .f32 bitsLt_bf16_f32 (stg P p.val (pt (b, p, k) c) _)) = acc P (p.val + 1) c _
  unfold pt dir
  rw [show acc P (p.val + 1) c ((chR b k).emb j) = FloatOps.addf (acc P p.val c ((chR b k).emb j)) (FloatOps.extf (φ := .bf16) .f32 bitsLt_bf16_f32
      (FloatOps.truncf (φ := .f32) .bf16 bitsLt_bf16_f32 (acc P p.val (pd (plane ((chR b k).emb j) + Fin.ofNat 2 p.val) c) ((chR b k).emb j)))) from rfl]
  rw [emb_plane, show Fin.ofNat 2 p.val = p from by revert p; decide]
  rfl

variable {hl₁ : outM.view.LoadsAt (Rect.unit (s := S2x128x512) o S1x32x512.size inb).toLoadRect}
  {hl₂ : cm.view.LoadsAt (Rect.unit (s := S2x128x512) o' S1x32x512.size inb').toLoadRect}
  {hl₃ : stgM.view.LoadsAt (Rect.unit (s := S2x128x512) o S1x32x512.size inb).toLoadRect}
  {hx₁ : (outM.access (Rect.unit (s := S2x128x512) o S1x32x512.size inb)).Stores Finset.univ}
  {hx₃ : (stgM.access (Rect.unit (s := S2x128x512) o S1x32x512.size inb)).Stores Finset.univ}
  {hm₁ hm₃ : (Finset.univ : Finset (Rect.unit (s := S2x128x512) o S1x32x512.size inb).shape.Idx) = Finset.univ ∨ ∀ a, (Rect.unit (s := S2x128x512) o S1x32x512.size inb).stride a = 1}
  {pv : (S1x32x512.Idx → Elt F .f32) → (S1x32x512.Idx → Elt F .bf16) → S1x32x512.Idx → Elt F .f32}
  {k₀ : (S1x32x512.Idx → Elt F .f32) → (S1x32x512.Idx → Elt F .bf16) → PUnit.{1} → Prog (TpuEff nD τ sig (Elt F) Λ₀ .tc) PUnit.{1}}
  {pw : (S1x32x512.Idx → Elt F .f32) → (S1x32x512.Idx → Elt F .bf16) → S1x32x512.Idx → Elt F .bf16}

/-- Both waits of a transfer and the accumulation of what landed. -/
theorem fin_step (ho : o = off b k) (ho' : o' = off p k) (hcm : cm = commM b) (hs : sS = sendS (b, p, k)) (hrs : rS = recvS (b, p, k))
    {m : ℕ} (hm : ord (b, p, k) < m)
    {v v' w w' : Memref sig .tc .vmem S32x512 .bf16} {e₁ e₂ e₃ e₄} (hv : v'.view.dmaCredit = N) (hw : w'.view.dmaCredit = N)
    (hpv : ∀ a z, pv a z = fun j => FloatOps.addf (a j) (FloatOps.extf (φ := .bf16) .f32 bitsLt_bf16_f32 (z j))) :
    iprop(Inv P K ∗ levAts L lv ∗ sent (b, p, k) c ∗ Och c b k (cut (acc P p.val c) b k) ∗ owesN c m)
      ⊢ iprop(((done (b, p, k) c ∗ Cch c b p k (cut (stg P p.val (pt (b, p, k) c)) b k) ∗ Sch c b k (cut (stg P p.val c) b k)
            ∗ Och c b k (cut (acc P (p.val + 1) c) b k) ∗ owesN c m) -∗ wpk c (k₀ (cut (acc P p.val c) b k) (cut (stg P p.val (pt (b, p, k) c)) b k) ⟨⟩) Q)
        -∗ wpk c (.op (.waitDma2 sS v v' e₁ e₂) fun _ => .op (.waitDma2 rS w w' e₃ e₄) fun _ =>
            .op (.load outM (Rect.unit (s := S2x128x512) o S1x32x512.size inb).toLoadRect hl₁) fun a =>
            .op (.load cm (Rect.unit (s := S2x128x512) o' S1x32x512.size inb').toLoadRect hl₂) fun z =>
            .op (.load outM (Rect.unit (s := S2x128x512) o S1x32x512.size inb).toLoadRect hl₁) fun _ =>
            .op (.store outM (Rect.unit (s := S2x128x512) o S1x32x512.size inb) (pv a z) Finset.univ hx₁ hm₁) (k₀ a z)) Q) := by
  iintro ⟨#HI, #Hlev, Hs, HX, HO⟩ Hk
  iapply (wait_send_step P K c (b := b) (p := p) (k := k) hs hv) $$ [Hs HO]
  · isplitr; · iexact HI
    isplitr; · iexact Hlev
    isplitl [Hs] <;> iassumption
  iintro ⟨HatS, HatR, HcR, HS, HO⟩
  iapply (wait_recv_step P K c (b := b) (p := p) (k := k) hrs hm hw) $$ [HatR HcR HO]
  · isplitr; · iexact HI
    isplitr; · iexact Hlev
    isplitl [HatR]; · iexact HatR
    isplitl [HcR] <;> iassumption
  iintro ⟨HatR, HC, HO⟩
  subst ho ho' hcm
  iapply (load_part c (hr := fun _ => rfl)) $$ HX
  iintro HX
  iapply (load_part c (hr := fun _ => rfl)) $$ HC
  iintro HC
  iapply (load_part c (hr := fun _ => rfl)) $$ HX
  iintro HX
  iapply (store_part c (hr := fun _ => rfl)) $$ HX
  iintro HX
  rw [acc_step P c (b := b) (k := k) p _ _ rfl rfl _ (hpv _ _)]
  iapply Hk
  unfold done
  isplitl [HatS HatR]
  · isplitl [HatS] <;> iassumption
  isplitl [HC]; · iexact HC
  isplitl [HS]; · iexact HS
  isplitl [HX] <;> iassumption

/-- The first phase of a chunk is started before its second. -/
theorem ord_phase : ∀ (b : Fin 2) (k : Fin 4), ord (b, 0, k) < ord (b, 1, k) := by decide

/-- The first phase of a chunk completed and its second phase started: the waits, the accumulation, the new value staged and sent on. -/
theorem mid_step (ho : o = off b k) (ho' : o' = off 0 k) (hcm : cm = commM b) (hs : sS = sendS (b, 0, k)) (hrs : rS = recvS (b, 0, k))
    {v v' w w' : Memref sig .tc .vmem S32x512 .bf16} {e₁ e₂ e₃ e₄} (hv : v'.view.dmaCredit = N) (hw : w'.view.dmaCredit = N)
    (hpv : ∀ a z, pv a z = fun j => FloatOps.addf (a j) (FloatOps.extf (φ := .bf16) .f32 bitsLt_bf16_f32 (z j)))
    (hpw : ∀ a z, pw a z = fun j => FloatOps.truncf (φ := .f32) .bf16 bitsLt_bf16_f32 (FloatOps.addf (a j) (FloatOps.extf (φ := .bf16) .f32 bitsLt_bf16_f32 (z j))))
    {o₂ : Fin S2x128x512.rank → ℕ} {inb₂ : ∀ a, o₂ a + S1x32x512.size a ≤ S2x128x512.size a}
    {h₂' : ∀ a, (Rect.unit (s := S2x128x512) o₂ S1x32x512.size inb₂).stride a = 1}
    (ho₂ : o₂ = off 1 k) (hn : n = pt (b, 1, k) c) {sS' rS' : DmaSem sig} (hs' : sS' = sendS (b, 1, k)) (hrs' : rS' = recvS (b, 1, k))
    {hq : (Rect.unit (s := S2x128x512) o S1x32x512.size inb).shape.Squeezes S32x512} {hq' : (Rect.unit (s := S2x128x512) o₂ S1x32x512.size inb₂).shape.Squeezes S32x512}
    {hsc} {f₁} {f₂} {f₃} :
    iprop(Inv P K ∗ levAts L lv ∗ sent (b, 0, k) c ∗ ready (b, 1, k) c ∗ Och c b k (cut (acc P 0 c) b k) ∗ owesN c (ord (b, 1, k)))
      ⊢ iprop(((done (b, 0, k) c ∗ Cch c b 0 k (cut (stg P 0 (pt (b, 0, k) c)) b k) ∗ sent (b, 1, k) c
            ∗ Och c b k (cut (acc P 1 c) b k) ∗ owesN c (ord (b, 1, k) + 1)) -∗ wpk c (k₀ (cut (acc P 0 c) b k) (cut (stg P 0 (pt (b, 0, k) c)) b k) ⟨⟩) Q)
        -∗ wpk c (.op (.waitDma2 sS v v' e₁ e₂) fun _ => .op (.waitDma2 rS w w' e₃ e₄) fun _ =>
            .op (.load outM (Rect.unit (s := S2x128x512) o S1x32x512.size inb).toLoadRect hl₁) fun a =>
            .op (.load cm (Rect.unit (s := S2x128x512) o' S1x32x512.size inb').toLoadRect hl₂) fun z =>
            .op (.load outM (Rect.unit (s := S2x128x512) o S1x32x512.size inb).toLoadRect hl₁) fun _ =>
            .op (.store outM (Rect.unit (s := S2x128x512) o S1x32x512.size inb) (pv a z) Finset.univ hx₁ hm₁) fun _ =>
            .op (.load stgM (Rect.unit (s := S2x128x512) o S1x32x512.size inb).toLoadRect hl₃) fun _ =>
            .op (.store stgM (Rect.unit (s := S2x128x512) o S1x32x512.size inb) (pw a z) Finset.univ hx₃ hm₃) fun _ =>
            .op (.enqueueDma ((stgM.slice (Rect.unit (s := S2x128x512) o S1x32x512.size inb) h₁).squeeze S32x512 hq)
              (.remote (Dev.tc n) ((cm.slice (Rect.unit (s := S2x128x512) o₂ S1x32x512.size inb₂) h₂').squeeze S32x512 hq') (.dma sS') hsc) (.dma rS') f₁ f₂ f₃) (k₀ a z)) Q) := by
  iintro ⟨#HI, #Hlev, Hs, Hr, HX, HO⟩ Hk
  iapply (wait_send_step P K c (b := b) (p := 0) (k := k) hs hv) $$ [Hs HO]
  · isplitr; · iexact HI
    isplitr; · iexact Hlev
    isplitl [Hs] <;> iassumption
  iintro ⟨HatS, HatR, HcR, HS, HO⟩
  iapply (wait_recv_step P K c (b := b) (p := 0) (k := k) hrs (m := ord (b, 1, k)) (ord_phase b k) hw) $$ [HatR HcR HO]
  · isplitr; · iexact HI
    isplitr; · iexact Hlev
    isplitl [HatR]; · iexact HatR
    isplitl [HcR] <;> iassumption
  iintro ⟨HatR, HC, HO⟩
  have hcm' := hcm
  subst ho ho' hcm
  iapply (load_part c (hr := fun _ => rfl)) $$ HX
  iintro HX
  iapply (load_part c (hr := fun _ => rfl)) $$ HC
  iintro HC
  iapply (load_part c (hr := fun _ => rfl)) $$ HX
  iintro HX
  iapply (store_part c (hr := fun _ => rfl)) $$ HX
  iintro HX
  iapply (load_part c (hr := fun _ => rfl)) $$ HS
  iintro HS
  iapply (store_part c (hr := fun _ => rfl)) $$ HS
  iintro HS
  have hacc : pv (cut (acc P (0 : Fin 2).val c) b k) (cut (stg P (0 : Fin 2).val (pt (b, 0, k) c)) b k) = cut (acc P 1 c) b k :=
    acc_step P c (b := b) (k := k) 0 _ _ rfl rfl _ (hpv _ _)
  have hstg : pw (cut (acc P (0 : Fin 2).val c) b k) (cut (stg P (0 : Fin 2).val (pt (b, 0, k) c)) b k) = cut (stg P (1 : Fin 2).val c) b k := by
    rw [hpw]
    funext j
    exact congrArg (FloatOps.truncf (φ := .f32) .bf16 bitsLt_bf16_f32) (congrFun ((hpv _ _).symm.trans hacc) j)
  iapply (send_step P K c (b := b) (p := 1) (k := k) hn rfl ho₂ rfl hs' hrs') $$ [Hr HS HO]
  · isplitr; · iexact HI
    isplitl [Hr]; · iexact Hr
    isplitl [HS]
    · rw [← hstg]; iexact HS
    iexact HO
  iintro ⟨Hs, HO⟩
  iapply Hk
  unfold done
  isplitl [HatS HatR]
  · isplitl [HatS] <;> iassumption
  isplitl [HC]; · iexact HC
  isplitl [Hs]; · iexact Hs
  isplitl [HX]
  · rw [← hacc]; iexact HX
  iexact HO

end Xfer

end Cert.KernelIdeal.Talk
-- ==== Proof.Compute.lean ====
/- What a device computes alone: the heads of one batch entry, their product with the output weights, and the buffers in parts. -/
module

public import proofs.«01_k».proof.Proof.Steps
public import Idealize.ShloMosaic.Lib.Pointwise.Index

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The staged activations. -/
abbrev xM : Memref sig .tc .vmem S2x128x512 .f32 := Memref.whole cc0_stg0_0
/-- The staged query weights. -/
abbrev wqM : Memref sig .tc .vmem S512x256 .f32 := Memref.whole cc0_stg1_0
/-- The staged keys. -/
abbrev kM : Memref sig .tc .vmem S2x128x4x64 .f32 := Memref.whole cc0_stg2_0
/-- The staged values. -/
abbrev vM : Memref sig .tc .vmem S2x128x4x64 .f32 := Memref.whole cc0_stg3_0
/-- The staged output weights. -/
abbrev woM : Memref sig .tc .vmem S256x512 .f32 := Memref.whole cc0_stg4_0
/-- The context buffer, in which the heads stand side by side. -/
abbrev ctxM : Memref sig .tc .vmem S128x256 .f32 := Memref.whole cc0_scratch0

/-! ## Parts of the buffers -/

/-- Every plane lies inside the array. -/
theorem pl_inb : ∀ (b : Fin 2) (a : Fin S2x128x512.rank), (![b.val, 0, 0] : Fin S2x128x512.rank → ℕ) a + S1x128x512.size a ≤ S2x128x512.size a := by decide
/-- Plane `b`. -/
abbrev plR (b : Fin 2) : Rect S2x128x512 := Rect.unit (s := S2x128x512) ![b.val, 0, 0] S1x128x512.size (pl_inb b)
/-- The columns of every head lie inside the context. -/
theorem col_inb : ∀ (h : Fin 4) (a : Fin S128x256.rank), (![0, 64 * h.val] : Fin S128x256.rank → ℕ) a + S128x64.size a ≤ S128x256.size a := by decide
/-- The 64 columns of head `h`. -/
abbrev colR (h : Fin 4) : Rect S128x256 := Rect.unit (s := S128x256) ![0, 64 * h.val] S128x64.size (col_inb h)
/-- Every head of every batch entry lies inside the keys and values. -/
theorem hd_inb : ∀ (b : Fin 2) (h : Fin 4) (a : Fin S2x128x4x64.rank), (![b.val, 0, h.val, 0] : Fin S2x128x4x64.rank → ℕ) a + S1x128x1x64.size a ≤ S2x128x4x64.size a := by decide
/-- Batch entry `b`, head `h` of the keys or values. -/
abbrev hdR (b : Fin 2) (h : Fin 4) : Rect S2x128x4x64 := Rect.unit (s := S2x128x4x64) ![b.val, 0, h.val, 0] S1x128x1x64.size (hd_inb b h)

/-- Different planes do not meet. -/
theorem pl_disj (b b' : Fin 2) (h : b ≠ b') : Disjoint (plR b).set (plR b').set := by
  refine Rect.unit_disjoint (0 : Fin 3) ?_
  revert b b'; decide
/-- The planes make up the array. -/
theorem pl_cov : (Finset.univ : Finset (Fin 2)).biUnion (fun b => (plR b).set) = Finset.univ := by
  ext i
  simp only [Finset.mem_biUnion, Finset.mem_univ, true_and, iff_true]
  refine ⟨i (0 : Fin 3), Rect.mem_set_unit.mpr fun a => ?_⟩
  have := (i a).isLt
  fin_cases a
  · exact ⟨le_refl _, Nat.lt_succ_self _⟩
  · exact ⟨Nat.zero_le _, (Nat.zero_add _).symm ▸ this⟩
  · exact ⟨Nat.zero_le _, (Nat.zero_add _).symm ▸ this⟩
/-- The columns of different heads do not meet. -/
theorem col_disj (h h' : Fin 4) (hh : h ≠ h') : Disjoint (colR h).set (colR h').set := by
  refine Rect.unit_disjoint (1 : Fin 2) ?_
  revert h h'; decide
/-- The columns of the heads make up the context. -/
theorem col_cov : (Finset.univ : Finset (Fin 4)).biUnion (fun h => (colR h).set) = Finset.univ := by
  ext i
  simp only [Finset.mem_biUnion, Finset.mem_univ, true_and, iff_true]
  have h1 : (i (1 : Fin 2)).val < 256 := (i (1 : Fin 2)).isLt
  refine ⟨⟨(i (1 : Fin 2)).val / 64, by omega⟩, Rect.mem_set_unit.mpr fun a => ?_⟩
  have := (i a).isLt
  fin_cases a
  · exact ⟨Nat.zero_le _, (Nat.zero_add _).symm ▸ this⟩
  · show 64 * ((i (1 : Fin 2)).val / 64) ≤ (i (1 : Fin 2)).val ∧ (i (1 : Fin 2)).val < 64 * ((i (1 : Fin 2)).val / 64) + 64
    omega
/-- Different chunks do not meet. -/
theorem ch_disj (x y : Fin 2 × Fin 4) (h : x ≠ y) : Disjoint (chR x.1 x.2).set (chR y.1 y.2).set := by
  by_cases hb : x.1 = y.1
  · refine Rect.unit_disjoint (1 : Fin 3) ?_
    revert x y; decide
  · refine Rect.unit_disjoint (0 : Fin 3) ?_
    revert x y; decide
/-- An index lies in chunk `k` of plane `b` when its plane is `b` and its row is one of the chunk's 32. -/
theorem mem_ch {b : Fin 2} {k : Fin 4} {i : S2x128x512.Idx} : i ∈ (chR b k).set ↔ (i (0 : Fin 3)).val = b.val ∧ (i (1 : Fin 3)).val / 32 = k.val := by
  have h2 : (i (2 : Fin 3)).val < 512 := (i (2 : Fin 3)).isLt
  constructor
  · intro hi
    have hi := Rect.mem_set_unit.mp hi
    have h0 : b.val ≤ (i (0 : Fin 3)).val ∧ (i (0 : Fin 3)).val < b.val + 1 := hi (0 : Fin 3)
    have h1 : 32 * k.val ≤ (i (1 : Fin 3)).val ∧ (i (1 : Fin 3)).val < 32 * k.val + 32 := hi (1 : Fin 3)
    omega
  · rintro ⟨h0, h1⟩
    refine Rect.mem_set_unit.mpr fun a => ?_
    fin_cases a
    · show b.val ≤ (i (0 : Fin 3)).val ∧ (i (0 : Fin 3)).val < b.val + 1
      omega
    · show 32 * k.val ≤ (i (1 : Fin 3)).val ∧ (i (1 : Fin 3)).val < 32 * k.val + 32
      omega
    · show 0 ≤ (i (2 : Fin 3)).val ∧ (i (2 : Fin 3)).val < 0 + 512
      omega
/-- An index lies in plane `b` when its first coordinate is `b`. -/
theorem mem_pl {b : Fin 2} {i : S2x128x512.Idx} : i ∈ (plR b).set ↔ (i (0 : Fin 3)).val = b.val := by
  have h1 : (i (1 : Fin 3)).val < 128 := (i (1 : Fin 3)).isLt
  have h2 : (i (2 : Fin 3)).val < 512 := (i (2 : Fin 3)).isLt
  constructor
  · intro hi
    have h0 : b.val ≤ (i (0 : Fin 3)).val ∧ (i (0 : Fin 3)).val < b.val + 1 := Rect.mem_set_unit.mp hi (0 : Fin 3)
    omega
  · intro h0
    refine Rect.mem_set_unit.mpr fun a => ?_
    fin_cases a
    · show b.val ≤ (i (0 : Fin 3)).val ∧ (i (0 : Fin 3)).val < b.val + 1
      omega
    · show 0 ≤ (i (1 : Fin 3)).val ∧ (i (1 : Fin 3)).val < 0 + 128
      omega
    · show 0 ≤ (i (2 : Fin 3)).val ∧ (i (2 : Fin 3)).val < 0 + 512
      omega
/-- The chunks make up the array. -/
theorem ch_cov : (Finset.univ : Finset (Fin 2 × Fin 4)).biUnion (fun x => (chR x.1 x.2).set) = Finset.univ := by
  ext i
  simp only [Finset.mem_biUnion, Finset.mem_univ, true_and, iff_true]
  have h1 : (i (1 : Fin 3)).val < 128 := (i (1 : Fin 3)).isLt
  exact ⟨(i (0 : Fin 3), ⟨(i (1 : Fin 3)).val / 32, by omega⟩), mem_ch.mpr ⟨rfl, rfl⟩⟩
/-- A plane is made up of its four chunks. -/
theorem pl_ch (b : Fin 2) : (plR b).set = (Finset.univ : Finset (Fin 4)).biUnion fun k => (chR b k).set := by
  ext i
  simp only [Finset.mem_biUnion, Finset.mem_univ, true_and]
  rw [mem_pl]
  have h1 : (i (1 : Fin 3)).val < 128 := (i (1 : Fin 3)).isLt
  exact ⟨fun h => ⟨⟨(i (1 : Fin 3)).val / 32, by omega⟩, mem_ch.mpr ⟨h, rfl⟩⟩, fun ⟨k, hk⟩ => (mem_ch.mp hk).1⟩

section Parts

variable {e : EltTy} (c : Dev nD) (M : Memref sig .tc .vmem S2x128x512 e)

/-- A plane is its four chunks. -/
theorem plane_chunks (b : Fin 2) (Z : S2x128x512.Idx → Elt F e) :
    (owns (c : Thread nD τ) (M.slice (plR b) (fun _ => rfl)) fullShare (fun j => Z ((plR b).emb j)) : sProp 𝕄)
      ⊢ bigSep Finset.univ fun k => owns (c : Thread nD τ) (M.slice (chR b k) (fun _ => rfl)) fullShare (cut Z b k) := by
  iintro H
  ihave H' := (show (owns (c : Thread nD τ) (M.slice (plR b) (fun _ => rfl)) fullShare (fun j => Z ((plR b).emb j)) : sProp 𝕄)
    ⊢ iprop(∃ g, ⌜(M.slice (plR b) (fun _ => rfl)).view.read (Elt F) g = (fun j => Z ((plR b).emb j))⌝
        ∗ (M.slice (plR b) (fun _ => rfl)).view.loc (c : Thread nD τ) ↦[(M.slice (plR b) (fun _ => rfl)).view.set]{fullShare} g) from .rfl) $$ H
  icases H' with ⟨%g, %hg, H⟩
  have hz : ∀ k, cut Z b k = fun j => M.view.read (Elt F) g ((chR b k).emb j) := by
    intro k
    funext j
    have hm : (chR b k).emb j ∈ (plR b).set := by
      rw [pl_ch]; exact Finset.mem_biUnion.mpr ⟨k, Finset.mem_univ _, by rw [← Rect.map_emb_univ]; exact Finset.mem_map_of_mem _ (Finset.mem_univ j)⟩
    obtain ⟨j', -, hj'⟩ := Finset.mem_map.mp ((Rect.map_emb_univ (plR b)).symm ▸ hm)
    show Z _ = _
    rw [← hj']
    exact (congrFun hg j').symm
  simp only [hz]
  rw [BI.bigSep_congr (fun k _ => owns_slice_read (c : Thread nD τ) M fullShare (chR b k) (fun _ => rfl) g)]
  rw [← pointsTo_biUnion _ _ (fun k _ k' _ hk => by
    rw [View.set_slice, View.set_slice]
    exact (Finset.disjoint_map _).mpr (ch_disj (b, k) (b, k') (fun h => hk (congrArg Prod.snd h))))]
  rw [show (Finset.univ : Finset (Fin 4)).biUnion (fun k => (M.view.slice (chR b k)).set) = (M.view.slice (plR b)).set from by
    rw [View.set_slice, pl_ch]
    ext i
    simp only [Finset.mem_biUnion, Finset.mem_map, Finset.mem_univ, true_and]
    constructor
    · rintro ⟨k, hk⟩
      rw [View.set_slice] at hk
      obtain ⟨x, hx, rfl⟩ := Finset.mem_map.mp hk
      exact ⟨x, ⟨k, hx⟩, rfl⟩
    · rintro ⟨x, ⟨k, hx⟩, rfl⟩
      exact ⟨k, by rw [View.set_slice]; exact Finset.mem_map_of_mem _ hx⟩]
  iexact H

end Parts

/-! ## Loads from buffers held whole -/

section Whole

variable {s : Shape} {e : EltTy} (c : Dev nD) {M : Memref sig .tc .vmem s e} {r : Rect s} {Q : PUnit.{1} → sProp (MT nD τ sig Unit (Elt F) ℕ UU ℕ)}

/-- A load of a part of an owned buffer returns the contents there. -/
theorem load_of {X : s.Idx → Elt F e} {hl : M.view.LoadsAt r.toLoadRect} {k : (r.shape.Idx → Elt F e) → Prog (TpuEff nD τ sig (Elt F) Λ₀ .tc) PUnit.{1}} :
    (owns (c : Thread nD τ) M fullShare X : sProp 𝕄)
      ⊢ iprop((owns (c : Thread nD τ) M fullShare X -∗ wpk c (k fun j => X (r.emb j)) Q) -∗ wpk c (.op (.load M r.toLoadRect hl) k) Q) := by
  iintro H Hk
  ihave H' := (Entails.of_eq (show (owns (c : Thread nD τ) M fullShare X : sProp 𝕄)
    = iprop(∃ f, ⌜M.view.read (Elt F) f = X⌝ ∗ (M.view.loc (c : Thread nD τ) ↦[M.view.set]{fullShare} f)) from rfl)) $$ H
  icases H' with ⟨%f, %hf, H⟩
  subst hf
  iapply (wp_load_rect (defs := defs₀ (F := F)) 𝒱₀ (c : Thread nD τ) none Set.univ (m := M) (r := r) (f := f) (S := M.view.set) (M.view.set_slice_subset r)) $$ H
  iintro H
  iapply Hk
  iapply (owns_intro (c : Thread nD τ) M fullShare f)
  iexact H

/-- Read at a rectangle that starts at 0 and is as large as the buffer. -/
theorem load_all {X : s.Idx → Elt F e} {o : Fin s.rank → ℕ} {inb : ∀ a, o a + s.size a ≤ s.size a} (ho : o = fun _ => 0)
    {hl : M.view.LoadsAt (Rect.unit (s := s) o s.size inb).toLoadRect} {k : (s.Idx → Elt F e) → Prog (TpuEff nD τ sig (Elt F) Λ₀ .tc) PUnit.{1}} :
    (owns (c : Thread nD τ) M fullShare X : sProp 𝕄)
      ⊢ iprop((owns (c : Thread nD τ) M fullShare X -∗ wpk c (k X) Q) -∗ wpk c (.op (.load M (Rect.unit (s := s) o s.size inb).toLoadRect hl) k) Q) := by
  subst ho
  have h := load_of (F := F) c (M := M) (r := Rect.unit (s := s) (fun _ => 0) s.size inb) (Q := Q) (X := X) (hl := hl) (k := k)
  rwa [show (fun j => X ((Rect.unit (s := s) (fun _ => 0) s.size inb).emb j)) = X from funext fun j => congrArg X (Rect.emb_whole_apply s j)] at h

end Whole

/-- The activations of batch entry `b` are loaded. -/
theorem load_x {b : Fin 2} {Q : PUnit.{1} → sProp (MT nD τ sig Unit (Elt F) ℕ UU ℕ)} {X : S2x128x512.Idx → Elt F .f32} {o : Fin S2x128x512.rank → ℕ}
    {inb : ∀ a, o a + S1x128x512.size a ≤ S2x128x512.size a} (c : Dev nD) (ho : o = ![b.val, 0, 0])
    {hl : xM.view.LoadsAt (Rect.unit (s := S2x128x512) o S1x128x512.size inb).toLoadRect} {k : (S1x128x512.Idx → Elt F .f32) → Prog (TpuEff nD τ sig (Elt F) Λ₀ .tc) PUnit.{1}} :
    (owns (c : Thread nD τ) xM fullShare X : sProp 𝕄)
      ⊢ iprop((owns (c : Thread nD τ) xM fullShare X -∗ wpk c (k fun j => X ((plR b).emb j)) Q) -∗ wpk c (.op (.load xM (Rect.unit (s := S2x128x512) o S1x128x512.size inb).toLoadRect hl) k) Q) := by
  subst ho
  exact load_of (F := F) c (M := xM) (r := plR b) (X := X)

/-- A pair of zeros is zero everywhere. -/
theorem zero2 : (![0, 0] : Fin 2 → ℕ) = fun _ => 0 := by decide

/-! ## Contents put together from parts -/

/-- The columns of all heads side by side. -/
def catCols {α : Type} (G : Fin 4 → S128x64.Idx → α) : S128x256.Idx → α :=
  fun i => G ⟨(i (1 : Fin 2)).val / 64, by have : (i (1 : Fin 2)).val < 256 := (i (1 : Fin 2)).isLt; omega⟩
    (ix2 (i (0 : Fin 2) : Fin 128) (⟨(i (1 : Fin 2)).val % 64, Nat.mod_lt _ (by decide)⟩ : Fin 64))

/-- The columns of head `h` of the side-by-side array are what was put there. -/
theorem catCols_emb {α : Type} (G : Fin 4 → S128x64.Idx → α) (h : Fin 4) : (fun j => catCols G ((colR h).emb j)) = G h := by
  funext j
  have hj : (j (1 : Fin 2)).val < 64 := (j (1 : Fin 2)).isLt
  have h1 : (((colR h).emb j) (1 : Fin 2)).val = 64 * h.val + 1 * (j (1 : Fin 2)).val := rfl
  have h0 : (((colR h).emb j) (0 : Fin 2)).val = 0 + 1 * (j (0 : Fin 2)).val := rfl
  unfold catCols
  have e1 : (⟨(((colR h).emb j) (1 : Fin 2)).val / 64, by omega⟩ : Fin 4) = h := Fin.ext (by show _ / 64 = _; omega)
  have e2 : ix2 (((colR h).emb j) (0 : Fin 2) : Fin 128) (⟨(((colR h).emb j) (1 : Fin 2)).val % 64, Nat.mod_lt _ (by decide)⟩ : Fin 64) = j := by
    funext a
    apply Fin.ext
    fin_cases a
    · show (((colR h).emb j) (0 : Fin 2)).val = (j (0 : Fin 2)).val; omega
    · show (((colR h).emb j) (1 : Fin 2)).val % 64 = (j (1 : Fin 2)).val; omega
  exact congrArg₂ G e1 e2

/-- Both planes in one array. -/
def ofPlanes {α : Type} (G : Fin 2 → S1x128x512.Idx → α) : S2x128x512.Idx → α :=
  fun i => G (plane i) (ix3 (0 : Fin 1) (i (1 : Fin 3) : Fin 128) (i (2 : Fin 3) : Fin 512))

/-- Plane `b` of the joined array is what was put there. -/
theorem ofPlanes_emb {α : Type} (G : Fin 2 → S1x128x512.Idx → α) (b : Fin 2) : (fun j => ofPlanes G ((plR b).emb j)) = G b := by
  funext j
  have hj : (j (0 : Fin 3)).val < 1 := (j (0 : Fin 3)).isLt
  have h0 : (((plR b).emb j) (0 : Fin 3)).val = b.val + 1 * (j (0 : Fin 3)).val := rfl
  have h1 : (((plR b).emb j) (1 : Fin 3)).val = 0 + 1 * (j (1 : Fin 3)).val := rfl
  have h2 : (((plR b).emb j) (2 : Fin 3)).val = 0 + 1 * (j (2 : Fin 3)).val := rfl
  unfold ofPlanes plane
  refine congrArg₂ G (Fin.ext (by omega)) ?_
  funext a
  apply Fin.ext
  fin_cases a
  · show 0 = (j (0 : Fin 3)).val; omega
  · show (((plR b).emb j) (1 : Fin 3)).val = (j (1 : Fin 3)).val; omega
  · show (((plR b).emb j) (2 : Fin 3)).val = (j (2 : Fin 3)).val; omega

/-- The columns of every head can be sliced out of the queries. -/
theorem slices_col (h : Fin 4) : S128x256.Slices ![0, 64 * h.val] S128x64 := by revert h; decide

/-- What head `h` stores, from all queries and its keys and values. -/
def headV (h : Fin 4) (q : S128x256.Idx → Elt F .f32) (kk vv : S1x128x1x64.Idx → Elt F .f32) : S128x64.Idx → Elt F .f32 :=
  k0_pay17 (extractStridedSlice S128x64 ![0, 64 * h.val] q (slices_col h)) (k0_pay16 kk) vv

/-! Every head of either batch entry stores that. -/

/-- Head 0 of batch entry 0. -/
theorem pay_00 (x : S1x128x512.Idx → Elt F .f32) (wq : S512x256.Idx → Elt F .f32) (y z) : k0_pay3 (k0_pay2 x wq y z) = headV 0 (k0_pay1 x wq) y z := rfl
/-- Head 1 of batch entry 0. -/
theorem pay_01 (q : S128x256.Idx → Elt F .f32) (y z) : k0_pay4 q y z = headV 1 q y z := rfl
/-- Head 2 of batch entry 0. -/
theorem pay_02 (q : S128x256.Idx → Elt F .f32) (y z) : k0_pay8 (k0_pay5 z) (k0_pay6 q y) (k0_pay7 q y) = headV 2 q y z := rfl
/-- Head 3 of batch entry 0. -/
theorem pay_03 (q : S128x256.Idx → Elt F .f32) (y z) : k0_pay9 q y z = headV 3 q y z := rfl
/-- Head 0 of batch entry 1. -/
theorem pay_10 (x : S1x128x512.Idx → Elt F .f32) (wq : S512x256.Idx → Elt F .f32) (y z) : k0_pay17 (k0_pay15 x wq) (k0_pay16 y) z = headV 0 (k0_pay1 x wq) y z := rfl
/-- Head 1 of batch entry 1. -/
theorem pay_11 (q : S128x256.Idx → Elt F .f32) (y z) : k0_pay18 q y z = headV 1 q y z := rfl
/-- Head 2 of batch entry 1. -/
theorem pay_12 (q : S128x256.Idx → Elt F .f32) (y z) : k0_pay20 (k0_pay19 q) y z = headV 2 q y z := rfl
/-- Head 3 of batch entry 1. -/
theorem pay_13 (q : S128x256.Idx → Elt F .f32) (y z) : k0_pay21 q y z = headV 3 q y z := rfl

/-- All heads of batch entry `b`. -/
def ctxOf (X : S2x128x512.Idx → Elt F .f32) (Wq : S512x256.Idx → Elt F .f32) (Kb Vb : S2x128x4x64.Idx → Elt F .f32) (b : Fin 2) : S128x256.Idx → Elt F .f32 :=
  catCols fun h => headV h (k0_pay1 (fun j => X ((plR b).emb j)) Wq) (fun j => Kb ((hdR b h).emb j)) (fun j => Vb ((hdR b h).emb j))

/-- The contribution of one device to the result. -/
def part (X : S2x128x512.Idx → Elt F .f32) (Wq : S512x256.Idx → Elt F .f32) (Kb Vb : S2x128x4x64.Idx → Elt F .f32) (Wo : S256x512.Idx → Elt F .f32) : S2x128x512.Idx → Elt F .f32 :=
  ofPlanes fun b => k0_pay11 (ctxOf X Wq Kb Vb b) Wo

/-! ## One head, and the end of a batch entry -/

section Heads

variable (c : Dev nD) {Q : PUnit.{1} → sProp (MT nD τ sig Unit (Elt F) ℕ UU ℕ)}
variable {kk : PUnit.{1} → Prog (TpuEff nD τ sig (Elt F) Λ₀ .tc) PUnit.{1}}

/-- The columns of head `h` of the context at some contents. -/
abbrev Xcol (c : Dev nD) (h : Fin 4) (X : S128x64.Idx → Elt F .f32) : sProp 𝕄 :=
  owns (c : Thread nD τ) (ctxM.slice (colR h) (fun _ => rfl)) fullShare X

/-- One head: its keys and values are loaded and its columns of the context are stored. -/
theorem head_step {b : Fin 2} {h : Fin 4} {o : Fin S2x128x4x64.rank → ℕ} {inb : ∀ a, o a + S1x128x1x64.size a ≤ S2x128x4x64.size a}
    {o' : Fin S128x256.rank → ℕ} {inb' : ∀ a, o' a + S128x64.size a ≤ S128x256.size a} (ho : o = ![b.val, 0, h.val, 0]) (ho' : o' = ![0, 64 * h.val])
    {Kb Vb : S2x128x4x64.Idx → Elt F .f32} {Z : S128x64.Idx → Elt F .f32} {pv : (S1x128x1x64.Idx → Elt F .f32) → (S1x128x1x64.Idx → Elt F .f32) → S128x64.Idx → Elt F .f32}
    {hl₁ : kM.view.LoadsAt (Rect.unit (s := S2x128x4x64) o S1x128x1x64.size inb).toLoadRect}
    {hl₂ : vM.view.LoadsAt (Rect.unit (s := S2x128x4x64) o S1x128x1x64.size inb).toLoadRect}
    {hl₃ : ctxM.view.LoadsAt (Rect.unit (s := S128x256) o' S128x64.size inb').toLoadRect}
    {hx : (ctxM.access (Rect.unit (s := S128x256) o' S128x64.size inb')).Stores Finset.univ}
    {hm : (Finset.univ : Finset (Rect.unit (s := S128x256) o' S128x64.size inb').shape.Idx) = Finset.univ ∨ ∀ a, (Rect.unit (s := S128x256) o' S128x64.size inb').stride a = 1}
    {k₀ : (S1x128x1x64.Idx → Elt F .f32) → (S1x128x1x64.Idx → Elt F .f32) → PUnit.{1} → Prog (TpuEff nD τ sig (Elt F) Λ₀ .tc) PUnit.{1}}
    {q : S128x256.Idx → Elt F .f32} (hpv : ∀ y z, pv y z = headV h q y z) :
    iprop(owns (c : Thread nD τ) kM fullShare Kb ∗ owns (c : Thread nD τ) vM fullShare Vb ∗ Xcol c h Z)
      ⊢ iprop(((owns (c : Thread nD τ) kM fullShare Kb ∗ owns (c : Thread nD τ) vM fullShare Vb
            ∗ Xcol c h (headV h q (fun j => Kb ((hdR b h).emb j)) (fun j => Vb ((hdR b h).emb j)))) -∗ wpk c (k₀ (fun j => Kb ((hdR b h).emb j)) (fun j => Vb ((hdR b h).emb j)) ⟨⟩) Q)
        -∗ wpk c (.op (.load kM (Rect.unit (s := S2x128x4x64) o S1x128x1x64.size inb).toLoadRect hl₁) fun y =>
            .op (.load vM (Rect.unit (s := S2x128x4x64) o S1x128x1x64.size inb).toLoadRect hl₂) fun z =>
            .op (.load ctxM (Rect.unit (s := S128x256) o' S128x64.size inb').toLoadRect hl₃) fun _ =>
            .op (.store ctxM (Rect.unit (s := S128x256) o' S128x64.size inb') (pv y z) Finset.univ hx hm) (k₀ y z)) Q) := by
  subst ho ho'
  iintro ⟨HK, HV, HX⟩ Hk
  iapply (load_of c) $$ HK
  iintro HK
  iapply (load_of c) $$ HV
  iintro HV
  iapply (load_part c (hr := fun _ => rfl)) $$ HX
  iintro HX
  iapply (store_part c (hr := fun _ => rfl)) $$ HX
  iintro HX
  rw [hpv]
  iapply Hk
  isplitl [HK]; · iexact HK
  isplitl [HV]; · iexact HV
  iexact HX

/-- The context as its four column blocks, and back. -/
theorem ctx_split (X : S128x256.Idx → Elt F .f32) :
    (owns (c : Thread nD τ) ctxM fullShare X : sProp 𝕄) ⊢ iprop(Xcol c 0 (fun j => X ((colR 0).emb j)) ∗ Xcol c 1 (fun j => X ((colR 1).emb j)) ∗ Xcol c 2 (fun j => X ((colR 2).emb j)) ∗ Xcol c 3 (fun j => X ((colR 3).emb j))) := by
  refine (owns_rects (c : Thread nD τ) ctxM fullShare colR (fun _ _ => rfl) col_disj col_cov X).trans (Entails.of_eq ?_)
  exact BI.bigSep_univ_eq_bigSepL ([0, 1, 2, 3] : List (Fin 4)) (by decide) (by decide) _

/-- The four column blocks make up the context. -/
theorem ctx_join (G : Fin 4 → S128x64.Idx → Elt F .f32) :
    (iprop(Xcol c 0 (G 0) ∗ Xcol c 1 (G 1) ∗ Xcol c 2 (G 2) ∗ Xcol c 3 (G 3)) : sProp 𝕄) ⊢ owns (c : Thread nD τ) ctxM fullShare (catCols G) := by
  refine Entails.trans (Entails.of_eq ?_) (owns_of_rects (c : Thread nD τ) ctxM fullShare colR (fun _ _ => rfl) col_disj col_cov (catCols G))
  simp only [catCols_emb]
  symm
  exact BI.bigSep_univ_eq_bigSepL ([0, 1, 2, 3] : List (Fin 4)) (by decide) (by decide) _

/-- A plane of the accumulator and of the staging buffer. -/
abbrev Opl (c : Dev nD) (b : Fin 2) (X : S1x128x512.Idx → Elt F .f32) : sProp 𝕄 := owns (c : Thread nD τ) (outM.slice (plR b) (fun _ => rfl)) fullShare X
/-- A plane of the staging buffer at some contents. -/
abbrev Spl (c : Dev nD) (b : Fin 2) (X : S1x128x512.Idx → Elt F .bf16) : sProp 𝕄 := owns (c : Thread nD τ) (stgM.slice (plR b) (fun _ => rfl)) fullShare X

/-- The end of a batch entry: the context is projected, and its plane of the accumulator and of the staging buffer is stored. -/
theorem tail_step {b : Fin 2} {o : Fin S2x128x512.rank → ℕ} {inb : ∀ a, o a + S1x128x512.size a ≤ S2x128x512.size a} (ho : o = ![b.val, 0, 0])
    {G : Fin 4 → S128x64.Idx → Elt F .f32} {Wo : S256x512.Idx → Elt F .f32} {Z : S1x128x512.Idx → Elt F .f32} {Z' : S1x128x512.Idx → Elt F .bf16}
    {pv : (S128x256.Idx → Elt F .f32) → (S256x512.Idx → Elt F .f32) → S1x128x512.Idx → Elt F .f32}
    {pw : (S128x256.Idx → Elt F .f32) → (S256x512.Idx → Elt F .f32) → S1x128x512.Idx → Elt F .bf16}
    {o₀ : Fin S128x256.rank → ℕ} {inb₀ : ∀ a, o₀ a + S128x256.size a ≤ S128x256.size a} (ho₀ : o₀ = fun _ => 0)
    {o₁ : Fin S256x512.rank → ℕ} {inb₁ : ∀ a, o₁ a + S256x512.size a ≤ S256x512.size a} (ho₁ : o₁ = fun _ => 0)
    {hl₁ : ctxM.view.LoadsAt (Rect.unit (s := S128x256) o₀ S128x256.size inb₀).toLoadRect}
    {hl₂ : woM.view.LoadsAt (Rect.unit (s := S256x512) o₁ S256x512.size inb₁).toLoadRect}
    {hl₃ : outM.view.LoadsAt (Rect.unit (s := S2x128x512) o S1x128x512.size inb).toLoadRect}
    {hl₄ : stgM.view.LoadsAt (Rect.unit (s := S2x128x512) o S1x128x512.size inb).toLoadRect}
    {hx : (outM.access (Rect.unit (s := S2x128x512) o S1x128x512.size inb)).Stores Finset.univ}
    {hx' : (stgM.access (Rect.unit (s := S2x128x512) o S1x128x512.size inb)).Stores Finset.univ}
    {hm hm' : (Finset.univ : Finset (Rect.unit (s := S2x128x512) o S1x128x512.size inb).shape.Idx) = Finset.univ ∨ ∀ a, (Rect.unit (s := S2x128x512) o S1x128x512.size inb).stride a = 1}
    {k₀ : (S128x256.Idx → Elt F .f32) → (S256x512.Idx → Elt F .f32) → PUnit.{1} → Prog (TpuEff nD τ sig (Elt F) Λ₀ .tc) PUnit.{1}}
    (hpv : ∀ y z, pv y z = k0_pay11 y z) (hpw : ∀ y z, pw y z = fun j => FloatOps.truncf (φ := .f32) .bf16 bitsLt_bf16_f32 (k0_pay11 y z j)) :
    iprop(Xcol c 0 (G 0) ∗ Xcol c 1 (G 1) ∗ Xcol c 2 (G 2) ∗ Xcol c 3 (G 3) ∗ owns (c : Thread nD τ) woM fullShare Wo ∗ Opl c b Z ∗ Spl c b Z')
      ⊢ iprop(((owns (c : Thread nD τ) ctxM fullShare (catCols G) ∗ owns (c : Thread nD τ) woM fullShare Wo
            ∗ Opl c b (k0_pay11 (catCols G) Wo) ∗ Spl c b (fun j => FloatOps.truncf (φ := .f32) .bf16 bitsLt_bf16_f32 (k0_pay11 (catCols G) Wo j))) -∗ wpk c (k₀ (catCols G) Wo ⟨⟩) Q)
        -∗ wpk c (.op (.load ctxM (Rect.unit (s := S128x256) o₀ S128x256.size inb₀).toLoadRect hl₁) fun y =>
            .op (.load woM (Rect.unit (s := S256x512) o₁ S256x512.size inb₁).toLoadRect hl₂) fun z =>
            .op (.load outM (Rect.unit (s := S2x128x512) o S1x128x512.size inb).toLoadRect hl₃) fun _ =>
            .op (.store outM (Rect.unit (s := S2x128x512) o S1x128x512.size inb) (pv y z) Finset.univ hx hm) fun _ =>
            .op (.load stgM (Rect.unit (s := S2x128x512) o S1x128x512.size inb).toLoadRect hl₄) fun _ =>
            .op (.store stgM (Rect.unit (s := S2x128x512) o S1x128x512.size inb) (pw y z) Finset.univ hx' hm') (k₀ y z)) Q) := by
  subst ho
  iintro ⟨H0, H1, H2, H3, HW, HX, HS⟩ Hk
  ihave HC := (ctx_join c G) $$ [H0 H1 H2 H3]
  · isplitl [H0]; · iexact H0
    isplitl [H1]; · iexact H1
    isplitl [H2] <;> iassumption
  iapply (load_all c ho₀) $$ HC
  iintro HC
  iapply (load_all c ho₁) $$ HW
  iintro HW
  iapply (load_part c (hr := fun _ => rfl)) $$ HX
  iintro HX
  iapply (store_part c (hr := fun _ => rfl)) $$ HX
  iintro HX
  iapply (load_part c (hr := fun _ => rfl)) $$ HS
  iintro HS
  iapply (store_part c (hr := fun _ => rfl)) $$ HS
  iintro HS
  rw [hpv, hpw]
  iapply Hk
  isplitl [HC]; · iexact HC
  isplitl [HW]; · iexact HW
  isplitl [HX] <;> iassumption

end Heads

end Cert.KernelIdeal.Talk
-- ==== Proof.Barrier.lean ====
/- The barrier: what a device pays its two neighbours, what it gets from them, and the families of chunks one by one. -/
module

public import proofs.«01_k».proof.Proof.Compute
public import Idealize.SL.ProofMode.BigOp

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over transfers -/

/-- A transfer by its direction, batch entry and chunk. -/
def byDir : Fin 2 × (Fin 2 × Fin 4) ≃ T where
  toFun x := (x.2.1, x.2.1 + x.1, x.2.2)
  invFun t := (t.1 + t.2.1, (t.1, t.2.2))
  left_inv := by decide
  right_inv := by decide

/-- All transfers are those in direction 0 and those in direction 1. -/
theorem by_dir (Φ : T → sProp (MT nD τ sig Unit (Elt F) ℕ UU ℕ)) :
    bigSep Finset.univ Φ = iprop((bigSep Finset.univ fun x : Fin 2 × Fin 4 => Φ (x.1, x.1 + 0, x.2)) ∗ (bigSep Finset.univ fun x : Fin 2 × Fin 4 => Φ (x.1, x.1 + 1, x.2))) := by
  rw [BI.bigSep_univ_equiv byDir, BI.bigSep_univ_prod]
  exact BI.bigSep_fin_two _

/-- A device's own receive chunks are what it pays its neighbours; -/
theorem own_bars (c : Dev nD) : (bigSep Finset.univ fun t : T => slot t c : sProp 𝕄) = iprop(barPay 0 (pd 0 c) ∗ barPay 1 (pd 1 c)) := by
  rw [by_dir]
  unfold barPay
  rw [pd_pd, pd_pd]

/-- The partner in a transfer of direction `d` is the neighbour in that direction. -/
theorem pt_dir : ∀ (d b : Fin 2) (k : Fin 4) (c : Dev nD), pt (b, b + d, k) c = pd d c := by decide

/-- what they pay it are the chunks it sends to. -/
theorem got_bars (c : Dev nD) : (bigSep Finset.univ fun t : T => slot t (pt t c) : sProp 𝕄) = iprop(barPay 0 c ∗ barPay 1 c) := by
  rw [by_dir]
  unfold barPay
  simp only [pt_dir]

/-- All transfers, in the order in which they are started. -/
theorem all_T (Φ : T → sProp (MT nD τ sig Unit (Elt F) ℕ UU ℕ)) :
    bigSep Finset.univ Φ = iprop(Φ (0, 0, 0) ∗ Φ (0, 0, 1) ∗ Φ (0, 0, 2) ∗ Φ (0, 0, 3) ∗ Φ (1, 0, 0) ∗ Φ (1, 0, 1) ∗ Φ (1, 0, 2) ∗ Φ (1, 0, 3)
      ∗ Φ (0, 1, 0) ∗ Φ (0, 1, 1) ∗ Φ (0, 1, 2) ∗ Φ (0, 1, 3) ∗ Φ (1, 1, 0) ∗ Φ (1, 1, 1) ∗ Φ (1, 1, 2) ∗ Φ (1, 1, 3)) :=
  BI.bigSep_univ_eq_bigSepL ([(0, 0, 0), (0, 0, 1), (0, 0, 2), (0, 0, 3), (1, 0, 0), (1, 0, 1), (1, 0, 2), (1, 0, 3),
    (0, 1, 0), (0, 1, 1), (0, 1, 2), (0, 1, 3), (1, 1, 0), (1, 1, 1), (1, 1, 2), (1, 1, 3)] : List T) (by decide) (by decide) _

/-- All chunks, one by one. -/
theorem all_8 (Φ : Fin 2 × Fin 4 → sProp (MT nD τ sig Unit (Elt F) ℕ UU ℕ)) :
    bigSep Finset.univ Φ = iprop(Φ (0, 0) ∗ Φ (0, 1) ∗ Φ (0, 2) ∗ Φ (0, 3) ∗ Φ (1, 0) ∗ Φ (1, 1) ∗ Φ (1, 2) ∗ Φ (1, 3)) :=
  BI.bigSep_univ_eq_bigSepL ([(0, 0), (0, 1), (0, 2), (0, 3), (1, 0), (1, 1), (1, 2), (1, 3)] : List (Fin 2 × Fin 4)) (by decide) (by decide) _

/-- All chunks of a plane, one by one. -/
theorem all_4 (Φ : Fin 4 → sProp (MT nD τ sig Unit (Elt F) ℕ UU ℕ)) :
    bigSep Finset.univ Φ = iprop(Φ 0 ∗ Φ 1 ∗ Φ 2 ∗ Φ 3) :=
  BI.bigSep_univ_eq_bigSepL ([0, 1, 2, 3] : List (Fin 4)) (by decide) (by decide) _

/-- A buffer of two planes as its eight chunks, and back. -/
theorem to_chunks {e : EltTy} (c : Dev nD) (M : Memref sig .tc .vmem S2x128x512 e) (X : S2x128x512.Idx → Elt F e) :
    (owns (c : Thread nD τ) M fullShare X : sProp 𝕄) ⊢ bigSep Finset.univ fun x : Fin 2 × Fin 4 => owns (c : Thread nD τ) (M.slice (chR x.1 x.2) (fun _ => rfl)) fullShare (cut X x.1 x.2) :=
  owns_rects (c : Thread nD τ) M fullShare (fun x : Fin 2 × Fin 4 => chR x.1 x.2) (fun _ _ => rfl) ch_disj ch_cov X
/-- The eight chunks make up the buffer. -/
theorem of_chunks {e : EltTy} (c : Dev nD) (M : Memref sig .tc .vmem S2x128x512 e) (X : S2x128x512.Idx → Elt F e) :
    (bigSep Finset.univ fun x : Fin 2 × Fin 4 => owns (c : Thread nD τ) (M.slice (chR x.1 x.2) (fun _ => rfl)) fullShare (cut X x.1 x.2)) ⊢ (owns (c : Thread nD τ) M fullShare X : sProp 𝕄) :=
  owns_of_rects (c : Thread nD τ) M fullShare (fun x : Fin 2 × Fin 4 => chR x.1 x.2) (fun _ _ => rfl) ch_disj ch_cov X
/-- A buffer of two planes as its planes. -/
theorem to_planes {e : EltTy} (c : Dev nD) (M : Memref sig .tc .vmem S2x128x512 e) (X : S2x128x512.Idx → Elt F e) :
    (owns (c : Thread nD τ) M fullShare X : sProp 𝕄) ⊢ iprop(owns (c : Thread nD τ) (M.slice (plR 0) (fun _ => rfl)) fullShare (fun j => X ((plR 0).emb j))
      ∗ owns (c : Thread nD τ) (M.slice (plR 1) (fun _ => rfl)) fullShare (fun j => X ((plR 1).emb j))) :=
  (owns_rects (c : Thread nD τ) M fullShare plR (fun _ _ => rfl) pl_disj pl_cov X).trans (Entails.of_eq (BI.bigSep_fin_two _))

/-- A chunk at known contents is a chunk at some contents. -/
theorem some_chunk (c : Dev nD) (M : Memref sig .tc .vmem S2x128x512 .bf16) (b : Fin 2) (k : Fin 4) (X : S1x32x512.Idx → Elt F .bf16) :
    (owns (c : Thread nD τ) (M.slice (chR b k) (fun _ => rfl)) fullShare X : sProp 𝕄) ⊢ iprop(∃ X, owns (c : Thread nD τ) (M.slice (chR b k) (fun _ => rfl)) fullShare X) := by
  iintro H; iexists _; iexact H
/-- A buffer as its eight chunks, whatever they hold. -/
theorem to_some_chunks (c : Dev nD) (M : Memref sig .tc .vmem S2x128x512 .bf16) (X : S2x128x512.Idx → Elt F .bf16) :
    (owns (c : Thread nD τ) M fullShare X : sProp 𝕄) ⊢ bigSep Finset.univ fun x : Fin 2 × Fin 4 => iprop(∃ X, owns (c : Thread nD τ) (M.slice (chR x.1 x.2) (fun _ => rfl)) fullShare X) :=
  (to_chunks c M X).trans (BI.bigSep_mono fun x _ => some_chunk c M x.1 x.2 _)

/-- Every receive semaphore of `c` is at its first round. -/
def allReached (c : Dev nD) : sProp 𝕄 := bigSep Finset.univ fun t : T => reached ER (recvCell t c) 0

/-- The two receive buffers make up the payments to both neighbours. -/
theorem pay_bars (c : Dev nD) (X Y : S2x128x512.Idx → Elt F .bf16) :
    (iprop(allReached c ∗ owns (c : Thread nD τ) (commM 0) fullShare X ∗ owns (c : Thread nD τ) (commM 1) fullShare Y) : sProp 𝕄)
      ⊢ iprop(barPay 0 (pd 0 c) ∗ barPay 1 (pd 1 c)) := by
  rw [← own_bars]
  iintro ⟨HR, HX, HY⟩
  ihave HX := (to_some_chunks c (commM 0) X) $$ HX
  ihave HY := (to_some_chunks c (commM 1) Y) $$ HY
  unfold slot allReached
  iapply (Entails.of_eq (BI.bigSep_sep' (Finset.univ : Finset T) (fun t => iprop(∃ X, Cch c t.1 t.2.1 t.2.2 X)) (fun t => reached ER (recvCell t c) 0)).symm)
  isplitr [HR]
  · iapply (Entails.of_eq (BI.bigSep_univ_prod (fun t : T => (iprop(∃ X, Cch c t.1 t.2.1 t.2.2 X) : sProp 𝕄))).symm)
    have h2 : (bigSep Finset.univ fun b : Fin 2 => bigSep Finset.univ fun x : Fin 2 × Fin 4 => (iprop(∃ X, Cch c b x.1 x.2 X) : sProp 𝕄))
      = iprop((bigSep Finset.univ fun x : Fin 2 × Fin 4 => iprop(∃ X, Cch c 0 x.1 x.2 X)) ∗ (bigSep Finset.univ fun x : Fin 2 × Fin 4 => iprop(∃ X, Cch c 1 x.1 x.2 X))) :=
      BI.bigSep_fin_two _
    iapply (Entails.of_eq h2.symm)
    isplitl [HX]
    · iexact HX
    · iexact HY
  · iexact HR

variable (P : Dev nD → S2x128x512.Idx → Elt F .f32)

/-- With the neighbours' payments every transfer is ready. -/
theorem all_ready (c : Dev nD) : (iprop((bigSep Finset.univ fun t : T => fresh t c) ∗ barPay 0 c ∗ barPay 1 c) : sProp 𝕄) ⊢ bigSep Finset.univ fun t : T => ready t c := by
  iintro ⟨HF, HB⟩
  ihave HS := (Entails.of_eq (got_bars c).symm) $$ HB
  unfold ready
  iapply (Entails.of_eq (BI.bigSep_sep' (Finset.univ : Finset T) (fun t => slot t (pt t c)) (fun t => fresh t c)).symm)
  isplitl [HS] <;> iassumption

section Steps

variable (K : GSem nD τ sig → ℕ) (c : Dev nD) {Q : PUnit.{1} → sProp (MT nD τ sig Unit (Elt F) ℕ UU ℕ)}
variable {kk : PUnit.{1} → Prog (TpuEff nD τ sig (Elt F) Λ₀ .tc) PUnit.{1}}

/-- The neighbour in direction `d` is signalled. -/
theorem signal_step (d : Fin 2) {n : Dev nD} (hn : n = pd d c) {s : Sem sig} (hs : s = barS) {a : ℤ} (ha : a = ((1 : ℕ) : ℤ))
    (O : CellTallies nD τ sig Unit) {O' : CellTallies nD τ sig Unit} (hO : O' = O + tallyAt (barCell (pd d c)) () 1) {W : Waits sig Unit} :
    iprop(Inv P K ∗ owes (c : Thread nD τ) O' W ∗ dutyTok ER (barCell (pd d c)) 0 d ∗ reached ER (barCell (pd d c)) 0 ∗ barPay d (pd d c))
      ⊢ iprop((owes (c : Thread nD τ) O W -∗ wpk c (kk ⟨⟩) Q) -∗ wpk c (.op (.semSignal (Dev.tc n) s a) kk) Q) := by
  subst hn hs ha
  iintro ⟨#HI, HO, Ht, Hr, HB⟩ Hk
  iapply (Rounds.wp_signal 𝒱₀ ER (Rd P) (c : Thread nD τ) none (dst := (pd d c : Thread nD τ)) (sem := barS) (r := 0) (d := d) (k' := 1) (κ := K (barCell (pd d c)))
    (by rw [duties_bar]; exact Finset.mem_univ _) (amount_bar P _ _) () O hO) $$ [HO Ht Hr HB]
  · isplitr; · iapply (inv_bar P K _); iexact HI
    isplitl [HO]; · iexact HO
    isplitl [Ht]; · iexact Ht
    isplitl [HB]; · rw [payload_bar]; iexact HB
    iexact Hr
  iexact Hk

/-- The barrier is passed: both neighbours have paid. -/
theorem bar_wait_step {s : Sem sig} (hs : s = barS) {a : ℕ} (ha : a = 2) {W : Waits sig Unit} :
    iprop(Inv P K ∗ levAts L lv ∗ cred (tallyAt (barCell c) () 2) ∗ owes (c : Thread nD τ) (due c 0) W ∗ atPos ER (barCell c) 0 ∅ 0)
      ⊢ iprop(((owesN c 0 ∗ atPos ER (barCell c) (0 + 1) ∅ 0 ∗ barPay 0 c ∗ barPay 1 c) -∗ wpk c (kk ⟨⟩) Q)
        -∗ wpk c (.op (.semWait s a) kk) Q) := by
  subst hs ha
  iintro ⟨#HI, #Hlev, Hc, HO, Hat⟩ Hk
  iapply (Rounds.wp_wait_rest_token 𝒱₀ ER (Rd P) (c : Thread nD τ) none (κ := K (barCell c))
      (wpE_semWait_eq 𝒱₀ (c : Thread nD τ) none Set.univ) (Set.mem_univ _) () (O := due c 0) (W := W) (R := 0) (m := 0) (T := ∅)
      ((Nat.zero_add _).trans (expect_bar P c).symm)) $$ [Hc HO Hat]
  · isplitr; · iapply (inv_bar P K c); iexact HI
    isplitl [Hc]; · iexact Hc
    isplitl [HO]; · iexact HO
    isplitr
    · iapply (mayWait_of c (.reg barS) 0 (by show 1 < 2 + 0; decide))
      iexact Hlev
    iexact Hat
  iintro ⟨HO, Hat, -, Hpay⟩
  ihave HB := (Entails.of_eq (rest_bar P c)) $$ Hpay
  iapply Hk
  unfold owesN
  isplitl [HO]; · iexists _; iexact HO
  isplitl [Hat]; · iexact Hat
  iexact HB

end Steps

end Cert.KernelIdeal.Talk
-- ==== Proof.Body.lean ====
/- The whole kernel body on one device, from its buffers and its part of the protocol to the sum over all devices. -/
module

public import proofs.«01_k».proof.Proof.Barrier
public import Idealize.ShloMosaic.Lib.Pointwise.Reshape

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Payloads read elementwise -/

/-- What is stored to the accumulator: the old contents plus what landed, widened. -/
theorem acc_pay (a : S1x32x512.Idx → Elt F .f32) (z : S1x32x512.Idx → Elt F .bf16) :
    k0_pay26 a z = fun j => FloatOps.addf (a j) (FloatOps.extf (φ := .bf16) .f32 bitsLt_bf16_f32 (z j)) := by
  funext j
  show FloatOps.addf (a (Shape.reshapeEquiv _ (Shape.reshapeEquiv _ j))) (FloatOps.extf (φ := .bf16) .f32 bitsLt_bf16_f32 (z (Shape.reshapeEquiv _ (Shape.reshapeEquiv _ j)))) = _
  rw [Shape.reshapeEquiv_reshapeEquiv, Shape.reshapeEquiv_self]

/-- What is staged for the second phase: that sum, narrowed. -/
theorem stage_pay (a : S1x32x512.Idx → Elt F .f32) (z : S1x32x512.Idx → Elt F .bf16) :
    k0_pay28 (k0_pay27 a z) = fun j => FloatOps.truncf (φ := .f32) .bf16 bitsLt_bf16_f32 (FloatOps.addf (a j) (FloatOps.extf (φ := .bf16) .f32 bitsLt_bf16_f32 (z j))) := by
  funext j
  exact congrArg (FloatOps.truncf (φ := .f32) .bf16 bitsLt_bf16_f32) (congrFun (acc_pay a z) j)

/-! ## Lemmas in curried form -/

section Curry

variable {A B C D E G R : sProp (MT nD τ sig Unit (Elt F) ℕ UU ℕ)}

/-- An entailment from three resources, with all but the first as premises. -/
theorem curry3 (h : iprop(A ∗ B ∗ C) ⊢ R) : A ⊢ iprop(B -∗ C -∗ R) := by
  iintro HA HB HC; iapply h
  isplitl [HA]; · iexact HA
  isplitl [HB] <;> iassumption
/-- The same with four resources. -/
theorem curry4 (h : iprop(A ∗ B ∗ C ∗ D) ⊢ R) : A ⊢ iprop(B -∗ C -∗ D -∗ R) := by
  iintro HA HB HC HD; iapply h
  isplitl [HA]; · iexact HA
  isplitl [HB]; · iexact HB
  isplitl [HC] <;> iassumption
/-- The same with five resources. -/
theorem curry5 (h : iprop(A ∗ B ∗ C ∗ D ∗ E) ⊢ R) : A ⊢ iprop(B -∗ C -∗ D -∗ E -∗ R) := by
  iintro HA HB HC HD HE; iapply h
  isplitl [HA]; · iexact HA
  isplitl [HB]; · iexact HB
  isplitl [HC]; · iexact HC
  isplitl [HD] <;> iassumption
/-- The same with six resources. -/
theorem curry6 (h : iprop(A ∗ B ∗ C ∗ D ∗ E ∗ G) ⊢ R) : A ⊢ iprop(B -∗ C -∗ D -∗ E -∗ G -∗ R) := by
  iintro HA HB HC HD HE HG; iapply h
  isplitl [HA]; · iexact HA
  isplitl [HB]; · iexact HB
  isplitl [HC]; · iexact HC
  isplitl [HD]; · iexact HD
  isplitl [HE] <;> iassumption

/-- The same with eight resources. -/
theorem curry8 {A' B' : sProp (MT nD τ sig Unit (Elt F) ℕ UU ℕ)} (h : iprop(A ∗ B ∗ C ∗ D ∗ E ∗ G ∗ A' ∗ B') ⊢ R) : A ⊢ iprop(B -∗ C -∗ D -∗ E -∗ G -∗ A' -∗ B' -∗ R) := by
  iintro HA HB HC HD HE HG HA' HB'; iapply h
  isplitl [HA]; · iexact HA
  isplitl [HB]; · iexact HB
  isplitl [HC]; · iexact HC
  isplitl [HD]; · iexact HD
  isplitl [HE]; · iexact HE
  isplitl [HG]; · iexact HG
  isplitl [HA'] <;> iassumption

end Curry

/-! ## What the body starts and ends with -/

variable (P : Dev nD → S2x128x512.Idx → Elt F .f32)

/-- A device's part of the protocol at the start; -/
def start (c : Dev nD) : sProp 𝕄 :=
  iprop(atPos ER (barCell c) 0 ∅ 0 ∗ cred (tallyAt (barCell c) () 2)
    ∗ (dutyTok ER (barCell (pd 0 c)) 0 0 ∗ reached ER (barCell (pd 0 c)) 0) ∗ (dutyTok ER (barCell (pd 1 c)) 0 1 ∗ reached ER (barCell (pd 1 c)) 0)
    ∗ allReached c ∗ bigSep Finset.univ fun t : T => fresh t c)
/-- and at the end. -/
def finish (c : Dev nD) : sProp 𝕄 := iprop(atPos ER (barCell c) (0 + 1) ∅ 0 ∗ bigSep Finset.univ fun t : T => done t c)
/-- The scratch buffers. -/
def scratch (c : Dev nD) : sProp 𝕄 :=
  iprop((∃ Z, owns (c : Thread nD τ) ctxM fullShare Z) ∗ (∃ Z, owns (c : Thread nD τ) stgM fullShare Z) ∗ (∃ Z, owns (c : Thread nD τ) (commM 0) fullShare Z) ∗ (∃ Z, owns (c : Thread nD τ) (commM 1) fullShare Z))
/-- The inputs of a device. -/
def inputs (c : Dev nD) (X : S2x128x512.Idx → Elt F .f32) (Wq : S512x256.Idx → Elt F .f32) (Kb Vb : S2x128x4x64.Idx → Elt F .f32) (Wo : S256x512.Idx → Elt F .f32) : sProp 𝕄 :=
  iprop(owns (c : Thread nD τ) xM fullShare X ∗ owns (c : Thread nD τ) wqM fullShare Wq ∗ owns (c : Thread nD τ) kM fullShare Kb ∗ owns (c : Thread nD τ) vM fullShare Vb ∗ owns (c : Thread nD τ) woM fullShare Wo)

/-- A plane of the accumulator in chunks, -/
theorem acc_chunks (c : Dev nD) (b : Fin 2) : (Opl c b (fun j => acc P 0 c ((plR b).emb j)) : sProp 𝕄)
    ⊢ iprop(Och c b 0 (cut (acc P 0 c) b 0) ∗ Och c b 1 (cut (acc P 0 c) b 1) ∗ Och c b 2 (cut (acc P 0 c) b 2) ∗ Och c b 3 (cut (acc P 0 c) b 3)) :=
  (plane_chunks c outM b (acc P 0 c)).trans (Entails.of_eq (all_4 _))
/-- and of the staging buffer. -/
theorem stage_chunks (c : Dev nD) (b : Fin 2) : (Spl c b (fun j => FloatOps.truncf (φ := .f32) .bf16 bitsLt_bf16_f32 ((fun j => acc P 0 c ((plR b).emb j)) j)) : sProp 𝕄)
    ⊢ iprop(Sch c b 0 (cut (stg P 0 c) b 0) ∗ Sch c b 1 (cut (stg P 0 c) b 1) ∗ Sch c b 2 (cut (stg P 0 c) b 2) ∗ Sch c b 3 (cut (stg P 0 c) b 3)) :=
  (plane_chunks c stgM b (stg P 0 c)).trans (Entails.of_eq (all_4 _))

/-- The room for all transfers, in the order they start, -/
theorem open_ready (c : Dev nD) : (bigSep Finset.univ (fun t : T => ready t c) : sProp 𝕄)
    ⊢ iprop(ready (0, 0, 0) c ∗ ready (0, 0, 1) c ∗ ready (0, 0, 2) c ∗ ready (0, 0, 3) c ∗ ready (1, 0, 0) c ∗ ready (1, 0, 1) c ∗ ready (1, 0, 2) c ∗ ready (1, 0, 3) c ∗ ready (0, 1, 0) c ∗ ready (0, 1, 1) c ∗ ready (0, 1, 2) c ∗ ready (0, 1, 3) c ∗ ready (1, 1, 0) c ∗ ready (1, 1, 1) c ∗ ready (1, 1, 2) c ∗ ready (1, 1, 3) c) :=
  Entails.of_eq (all_T _)
/-- and all transfers completed. -/
theorem close_done (c : Dev nD) : (iprop(done (0, 0, 0) c ∗ done (0, 0, 1) c ∗ done (0, 0, 2) c ∗ done (0, 0, 3) c ∗ done (1, 0, 0) c ∗ done (1, 0, 1) c ∗ done (1, 0, 2) c ∗ done (1, 0, 3) c ∗ done (0, 1, 0) c ∗ done (0, 1, 1) c ∗ done (0, 1, 2) c ∗ done (0, 1, 3) c ∗ done (1, 1, 0) c ∗ done (1, 1, 1) c ∗ done (1, 1, 2) c ∗ done (1, 1, 3) c) : sProp 𝕄)
    ⊢ bigSep Finset.univ (fun t : T => done t c) :=
  Entails.of_eq (all_T (fun t : T => done t c)).symm
/-- A buffer from its eight chunks. -/
theorem close_chunks {e : EltTy} (c : Dev nD) (M : Memref sig .tc .vmem S2x128x512 e) (X : S2x128x512.Idx → Elt F e) :
    (iprop(owns (c : Thread nD τ) (M.slice (chR 0 0) (fun _ => rfl)) fullShare (cut X 0 0) ∗ owns (c : Thread nD τ) (M.slice (chR 0 1) (fun _ => rfl)) fullShare (cut X 0 1)
      ∗ owns (c : Thread nD τ) (M.slice (chR 0 2) (fun _ => rfl)) fullShare (cut X 0 2) ∗ owns (c : Thread nD τ) (M.slice (chR 0 3) (fun _ => rfl)) fullShare (cut X 0 3)
      ∗ owns (c : Thread nD τ) (M.slice (chR 1 0) (fun _ => rfl)) fullShare (cut X 1 0) ∗ owns (c : Thread nD τ) (M.slice (chR 1 1) (fun _ => rfl)) fullShare (cut X 1 1)
      ∗ owns (c : Thread nD τ) (M.slice (chR 1 2) (fun _ => rfl)) fullShare (cut X 1 2) ∗ owns (c : Thread nD τ) (M.slice (chR 1 3) (fun _ => rfl)) fullShare (cut X 1 3)) : sProp 𝕄)
      ⊢ owns (c : Thread nD τ) M fullShare X :=
  (Entails.of_eq (all_8 fun x => owns (c : Thread nD τ) (M.slice (chR x.1 x.2) (fun _ => rfl)) fullShare (cut X x.1 x.2)).symm).trans (of_chunks c M X)

/-- All chunks in one array. -/
def ofChunks {α : Type} (G : Fin 2 → Fin 4 → S1x32x512.Idx → α) : S2x128x512.Idx → α :=
  fun i => G (plane i) ⟨(i (1 : Fin 3)).val / 32, by have : (i (1 : Fin 3)).val < 128 := (i (1 : Fin 3)).isLt; omega⟩
    (ix3 (0 : Fin 1) (⟨(i (1 : Fin 3)).val % 32, Nat.mod_lt _ (by decide)⟩ : Fin 32) (i (2 : Fin 3) : Fin 512))

/-- Each chunk of the joined array is what was put there. -/
theorem ofChunks_emb {α : Type} (G : Fin 2 → Fin 4 → S1x32x512.Idx → α) (b : Fin 2) (k : Fin 4) : cut (ofChunks G) b k = G b k := by
  funext j
  have hj : (j (0 : Fin 3)).val < 1 := (j (0 : Fin 3)).isLt
  have hj1 : (j (1 : Fin 3)).val < 32 := (j (1 : Fin 3)).isLt
  have h0 : (((chR b k).emb j) (0 : Fin 3)).val = b.val + 1 * (j (0 : Fin 3)).val := rfl
  have h1 : (((chR b k).emb j) (1 : Fin 3)).val = 32 * k.val + 1 * (j (1 : Fin 3)).val := rfl
  have h2 : (((chR b k).emb j) (2 : Fin 3)).val = 0 + 1 * (j (2 : Fin 3)).val := rfl
  show ofChunks G ((chR b k).emb j) = G b k j
  unfold ofChunks
  have e0 : plane ((chR b k).emb j) = b := Fin.ext (by show (((chR b k).emb j) (0 : Fin 3)).val = _; omega)
  have e1 : (⟨(((chR b k).emb j) (1 : Fin 3)).val / 32, by omega⟩ : Fin 4) = k := Fin.ext (by show _ / 32 = _; omega)
  have e2 : ix3 (0 : Fin 1) (⟨(((chR b k).emb j) (1 : Fin 3)).val % 32, Nat.mod_lt _ (by decide)⟩ : Fin 32) (((chR b k).emb j) (2 : Fin 3) : Fin 512) = j := by
    funext a
    apply Fin.ext
    fin_cases a
    · show 0 = (j (0 : Fin 3)).val; omega
    · show (((chR b k).emb j) (1 : Fin 3)).val % 32 = (j (1 : Fin 3)).val; omega
    · show (((chR b k).emb j) (2 : Fin 3)).val = (j (2 : Fin 3)).val; omega
  exact congr (congrArg₂ G e0 e1) e2

/-- A landing buffer from its eight chunks, whatever they hold. -/
theorem close_comm (c : Dev nD) (b : Fin 2) (G : Fin 2 → Fin 4 → S1x32x512.Idx → Elt F .bf16) :
    (iprop(Cch c b 0 0 (G 0 0) ∗ Cch c b 0 1 (G 0 1) ∗ Cch c b 0 2 (G 0 2) ∗ Cch c b 0 3 (G 0 3)
      ∗ Cch c b 1 0 (G 1 0) ∗ Cch c b 1 1 (G 1 1) ∗ Cch c b 1 2 (G 1 2) ∗ Cch c b 1 3 (G 1 3)) : sProp 𝕄)
      ⊢ iprop(∃ Z, owns (c : Thread nD τ) (commM b) fullShare Z) := by
  have h := close_chunks (F := F) c (commM b) (ofChunks G)
  simp only [ofChunks_emb] at h
  iintro H
  iexists (ofChunks G)
  iapply h
  iexact H

/-- The body as called. -/
abbrev theBody : Prog (TpuEff nD τ sig (Elt F) Λ₀ .tc) PUnit :=
  cc0_body xM (Memref.isWhole_whole _) wqM (Memref.isWhole_whole _) kM (Memref.isWhole_whole _) vM (Memref.isWhole_whole _) woM (Memref.isWhole_whole _) outM (Memref.isWhole_whole _)
    ctxM (Memref.isWhole_whole _) stgM (Memref.isWhole_whole _) (Memref.whole cc0_scratch2) (Memref.isWhole_whole _) (Memref.whole cc0_scratch3) (Memref.isWhole_whole _) cc0_scratch4 cc0_scratch5 cc0_scratch6 cc0_scratch7

set_option maxHeartbeats 4000000 in
/-- The body takes the inputs and the start of the protocol to the accumulated sum and the end of the protocol. -/
theorem body_run (K : GSem nD τ sig → ℕ) (c : Dev nD) (X : S2x128x512.Idx → Elt F .f32) (Wq : S512x256.Idx → Elt F .f32) (Kb Vb : S2x128x4x64.Idx → Elt F .f32) (Wo : S256x512.Idx → Elt F .f32)
    (hP : P c = part X Wq Kb Vb Wo) (Q : PUnit.{1} → sProp (MT nD τ sig Unit (Elt F) ℕ UU ℕ)) :
    iprop(Inv P K ∗ levAts L lv ∗ (∃ W, owes (c : Thread nD τ) (O₀ c) W) ∗ start c ∗ inputs c X Wq Kb Vb Wo ∗ (∃ Z, owns (c : Thread nD τ) outM fullShare Z) ∗ scratch c)
      ⊢ iprop(((owesN c 16 ∗ finish c ∗ inputs c X Wq Kb Vb Wo ∗ owns (c : Thread nD τ) outM fullShare (acc P 2 c) ∗ scratch c) -∗ wpk c (.ret ⟨⟩) Q) -∗ wpk c theBody Q) := by
  have hpl (b : Fin 2) : k0_pay11 (catCols fun h => headV h (k0_pay1 (fun j => X ((plR b).emb j)) Wq) (fun j => Kb ((hdR b h).emb j)) (fun j => Vb ((hdR b h).emb j))) Wo = fun j : S1x128x512.Idx => acc P 0 c ((plR b).emb j) := by
    show _ = fun j : S1x128x512.Idx => P c ((plR b).emb j)
    rw [hP]
    exact (ofPlanes_emb (fun b => k0_pay11 (ctxOf X Wq Kb Vb b) Wo) b).symm
  unfold theBody
  simp only [cc0_body_eq_skeleton]; unfold cc0_body_skel
  simp only [k0_part29_eq_skeleton]; unfold k0_part29_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel
  simp only [semSignalWord, semWaitWord, Prog.lift, Prog.bind_op, Prog.bind_ret, Prog.pure_eq_ret, wp_deviceId]

  unfold start inputs scratch
  iintro ⟨#HI, #Hlev, ⟨%W, HO⟩, ⟨Hbar, Hcb, ⟨Ht0, Hr0⟩, ⟨Ht1, Hr1⟩, Hall, Hfr⟩, ⟨HX, HWq, HK, HV, HWo⟩, ⟨%Zo, HZo⟩, ⟨%Zc, HZc⟩, ⟨%Zs, HZs⟩, ⟨%Z0, HZ0⟩, ⟨%Z1, HZ1⟩⟩ Hk
  -- the signals
  ihave HB := (curry3 (pay_bars c Z0 Z1)) $$ Hall HZ0 HZ1
  icases HB with ⟨HB0, HB1⟩
  iapply (curry5 (signal_step P K c 0 (Fin.ext ((by decide : ∀ c : Dev nD, k0_dev1 c = (pd 0 c).val) c)) rfl rfl (due c 0 + tallyAt (barCell (pd 1 c)) () 1) (O' := O₀ c) rfl)) $$ HI HO Ht0 Hr0 HB0
  iintro HO
  iapply (curry5 (signal_step P K c 1 (Fin.ext ((by decide : ∀ c : Dev nD, k0_dev2 c = (pd 1 c).val) c)) rfl rfl (due c 0) (O' := due c 0 + tallyAt (barCell (pd 1 c)) () 1) rfl)) $$ HI HO Ht1 Hr1 HB1
  iintro HO
  -- the buffers in parts
  ihave HZo := (to_planes c outM Zo) $$ HZo
  icases HZo with ⟨HX0, HX1⟩
  ihave HZs := (to_planes c stgM Zs) $$ HZs
  icases HZs with ⟨HS0, HS1⟩
  -- batch entry 0
  ihave HZc := (ctx_split c _) $$ HZc
  icases HZc with ⟨HC0, HC1, HC2, HC3⟩
  iapply (load_x c (b := 0) (o := ![0, 0, 0]) (by decide)) $$ HX
  iintro HX
  iapply (load_all c zero2) $$ HWq
  iintro HWq
  iapply (curry3 (head_step c (b := 0) (h := 0) (q := k0_pay1 (fun j => X ((plR 0).emb j)) Wq) (o := ![0, 0, 0, 0]) (o' := ![0, 0]) (by decide) (by decide) (pay_00 (fun j => X ((plR 0).emb j)) Wq))) $$ HK HV HC0
  iintro ⟨HK, HV, HC0⟩
  iapply (curry3 (head_step c (b := 0) (h := 1) (q := k0_pay1 (fun j => X ((plR 0).emb j)) Wq) (o := ![0, 0, 1, 0]) (o' := ![0, 64]) (by decide) (by decide) (pay_01 _))) $$ HK HV HC1
  iintro ⟨HK, HV, HC1⟩
  iapply (curry3 (head_step c (b := 0) (h := 2) (q := k0_pay1 (fun j => X ((plR 0).emb j)) Wq) (o := ![0, 0, 2, 0]) (o' := ![0, 128]) (by decide) (by decide) (pay_02 _))) $$ HK HV HC2
  iintro ⟨HK, HV, HC2⟩
  iapply (curry3 (head_step c (b := 0) (h := 3) (q := k0_pay1 (fun j => X ((plR 0).emb j)) Wq) (o := ![0, 0, 3, 0]) (o' := ![0, 192]) (by decide) (by decide) (pay_03 _))) $$ HK HV HC3
  iintro ⟨HK, HV, HC3⟩
  iapply (tail_step c (b := 0) (by decide) (G := fun h => headV h (k0_pay1 (fun j => X ((plR 0).emb j)) Wq) (fun j => Kb ((hdR 0 h).emb j)) (fun j => Vb ((hdR 0 h).emb j))) zero2 zero2 (fun _ _ => rfl) (fun _ _ => rfl)) $$ [HC0 HC1 HC2 HC3 HWo HX0 HS0]
  · isplitl [HC0]; · iexact HC0
    isplitl [HC1]; · iexact HC1
    isplitl [HC2]; · iexact HC2
    isplitl [HC3]; · iexact HC3
    isplitl [HWo]; · iexact HWo
    isplitl [HX0]; · iexact HX0
    iexact HS0
  iintro ⟨HZc, HWo, HX0, HS0⟩
  rw [hpl 0]
  ihave HX0 := (acc_chunks P c 0) $$ HX0
  ihave HS0 := (stage_chunks P c 0) $$ HS0
  icases HX0 with ⟨HX00, HX01, HX02, HX03⟩
  icases HS0 with ⟨HS00, HS01, HS02, HS03⟩
  -- the barrier
  iapply (curry5 (bar_wait_step P K c rfl rfl)) $$ HI Hlev Hcb HO Hbar
  iintro ⟨HO, Hbar, HB0, HB1⟩
  ihave Hfr := (curry3 ((all_ready c).trans (open_ready c))) $$ Hfr HB0 HB1
  icases Hfr with ⟨HR000, HR001, HR002, HR003, HR100, HR101, HR102, HR103, HR010, HR011, HR012, HR013, HR110, HR111, HR112, HR113⟩
  -- the first phase of batch entry 0 starts
  iapply (curry4 (C := Sch c 0 0 (cut (stg P 0 c) 0 0)) (D := owesN c 0) (send_step P K c (b := 0) (p := 0) (k := 0) (Fin.ext ((by decide : ∀ c : Dev nD, k0_dev3 c = (pt (0, 0, 0) c).val) c)) (by decide) (by decide) rfl rfl rfl)) $$ HI HR000 HS00 HO
  iintro ⟨HT00, HO⟩
  iapply (curry4 (C := Sch c 0 1 (cut (stg P 0 c) 0 1)) (D := owesN c (ord (0, 0, 0) + 1)) (send_step P K c (b := 0) (p := 0) (k := 1) (Fin.ext ((by decide : ∀ c : Dev nD, k0_dev4 c = (pt (0, 0, 1) c).val) c)) (by decide) (by decide) rfl rfl rfl)) $$ HI HR001 HS01 HO
  iintro ⟨HT01, HO⟩
  iapply (curry4 (C := Sch c 0 2 (cut (stg P 0 c) 0 2)) (D := owesN c (ord (0, 0, 1) + 1)) (send_step P K c (b := 0) (p := 0) (k := 2) (Fin.ext ((by decide : ∀ c : Dev nD, k0_dev5 c = (pt (0, 0, 2) c).val) c)) (by decide) (by decide) rfl rfl rfl)) $$ HI HR002 HS02 HO
  iintro ⟨HT02, HO⟩
  iapply (curry4 (C := Sch c 0 3 (cut (stg P 0 c) 0 3)) (D := owesN c (ord (0, 0, 2) + 1)) (send_step P K c (b := 0) (p := 0) (k := 3) (Fin.ext ((by decide : ∀ c : Dev nD, k0_dev6 c = (pt (0, 0, 3) c).val) c)) (by decide) (by decide) rfl rfl rfl)) $$ HI HR003 HS03 HO
  iintro ⟨HT03, HO⟩
  -- batch entry 1
  ihave HZc := (ctx_split c _) $$ HZc
  icases HZc with ⟨HC0, HC1, HC2, HC3⟩
  iapply (load_x c (b := 1) (o := ![1, 0, 0]) (by decide)) $$ HX
  iintro HX
  iapply (load_all c zero2) $$ HWq
  iintro HWq
  iapply (curry3 (head_step c (b := 1) (h := 0) (q := k0_pay1 (fun j => X ((plR 1).emb j)) Wq) (o := ![1, 0, 0, 0]) (o' := ![0, 0]) (by decide) (by decide) (pay_10 (fun j => X ((plR 1).emb j)) Wq))) $$ HK HV HC0
  iintro ⟨HK, HV, HC0⟩
  iapply (curry3 (head_step c (b := 1) (h := 1) (q := k0_pay1 (fun j => X ((plR 1).emb j)) Wq) (o := ![1, 0, 1, 0]) (o' := ![0, 64]) (by decide) (by decide) (pay_11 _))) $$ HK HV HC1
  iintro ⟨HK, HV, HC1⟩
  iapply (curry3 (head_step c (b := 1) (h := 2) (q := k0_pay1 (fun j => X ((plR 1).emb j)) Wq) (o := ![1, 0, 2, 0]) (o' := ![0, 128]) (by decide) (by decide) (pay_12 _))) $$ HK HV HC2
  iintro ⟨HK, HV, HC2⟩
  iapply (curry3 (head_step c (b := 1) (h := 3) (q := k0_pay1 (fun j => X ((plR 1).emb j)) Wq) (o := ![1, 0, 3, 0]) (o' := ![0, 192]) (by decide) (by decide) (pay_13 _))) $$ HK HV HC3
  iintro ⟨HK, HV, HC3⟩
  iapply (tail_step c (b := 1) (by decide) (G := fun h => headV h (k0_pay1 (fun j => X ((plR 1).emb j)) Wq) (fun j => Kb ((hdR 1 h).emb j)) (fun j => Vb ((hdR 1 h).emb j))) zero2 zero2 (fun _ _ => rfl) (fun _ _ => rfl)) $$ [HC0 HC1 HC2 HC3 HWo HX1 HS1]
  · isplitl [HC0]; · iexact HC0
    isplitl [HC1]; · iexact HC1
    isplitl [HC2]; · iexact HC2
    isplitl [HC3]; · iexact HC3
    isplitl [HWo]; · iexact HWo
    isplitl [HX1]; · iexact HX1
    iexact HS1
  iintro ⟨HZc, HWo, HX1, HS1⟩
  rw [hpl 1]
  ihave HX1 := (acc_chunks P c 1) $$ HX1
  ihave HS1 := (stage_chunks P c 1) $$ HS1
  icases HX1 with ⟨HX10, HX11, HX12, HX13⟩
  icases HS1 with ⟨HS10, HS11, HS12, HS13⟩
  -- the first phase of batch entry 1 starts
  iapply (curry4 (C := Sch c 1 0 (cut (stg P 0 c) 1 0)) (D := owesN c (ord (0, 0, 3) + 1)) (send_step P K c (b := 1) (p := 0) (k := 0) (Fin.ext ((by decide : ∀ c : Dev nD, k0_dev7 c = (pt (1, 0, 0) c).val) c)) (by decide) (by decide) rfl rfl rfl)) $$ HI HR100 HS10 HO
  iintro ⟨HT10, HO⟩
  iapply (curry4 (C := Sch c 1 1 (cut (stg P 0 c) 1 1)) (D := owesN c (ord (1, 0, 0) + 1)) (send_step P K c (b := 1) (p := 0) (k := 1) (Fin.ext ((by decide : ∀ c : Dev nD, k0_dev8 c = (pt (1, 0, 1) c).val) c)) (by decide) (by decide) rfl rfl rfl)) $$ HI HR101 HS11 HO
  iintro ⟨HT11, HO⟩
  iapply (curry4 (C := Sch c 1 2 (cut (stg P 0 c) 1 2)) (D := owesN c (ord (1, 0, 1) + 1)) (send_step P K c (b := 1) (p := 0) (k := 2) (Fin.ext ((by decide : ∀ c : Dev nD, k0_dev9 c = (pt (1, 0, 2) c).val) c)) (by decide) (by decide) rfl rfl rfl)) $$ HI HR102 HS12 HO
  iintro ⟨HT12, HO⟩
  iapply (curry4 (C := Sch c 1 3 (cut (stg P 0 c) 1 3)) (D := owesN c (ord (1, 0, 2) + 1)) (send_step P K c (b := 1) (p := 0) (k := 3) (Fin.ext ((by decide : ∀ c : Dev nD, k0_dev10 c = (pt (1, 0, 3) c).val) c)) (by decide) (by decide) rfl rfl rfl)) $$ HI HR103 HS13 HO
  iintro ⟨HT13, HO⟩
  -- each first phase completes and its second starts
  iapply (curry6 (G := owesN c (ord (1, 0, 3) + 1)) (mid_step P K c (b := 0) (k := 0) (by decide) (by decide) rfl rfl rfl rfl rfl acc_pay stage_pay (by decide) (Fin.ext ((by decide : ∀ c : Dev nD, k0_dev11 c = (pt (0, 1, 0) c).val) c)) rfl rfl)) $$ HI Hlev HT00 HR010 HX00 HO
  iintro ⟨HD000, HC000, HT00, HX00, HO⟩
  iapply (curry6 (G := owesN c (ord (0, 1, 0) + 1)) (mid_step P K c (b := 0) (k := 1) (by decide) (by decide) rfl rfl rfl rfl rfl acc_pay stage_pay (by decide) (Fin.ext ((by decide : ∀ c : Dev nD, k0_dev12 c = (pt (0, 1, 1) c).val) c)) rfl rfl)) $$ HI Hlev HT01 HR011 HX01 HO
  iintro ⟨HD001, HC001, HT01, HX01, HO⟩
  iapply (curry6 (G := owesN c (ord (0, 1, 1) + 1)) (mid_step P K c (b := 0) (k := 2) (by decide) (by decide) rfl rfl rfl rfl rfl acc_pay stage_pay (by decide) (Fin.ext ((by decide : ∀ c : Dev nD, k0_dev13 c = (pt (0, 1, 2) c).val) c)) rfl rfl)) $$ HI Hlev HT02 HR012 HX02 HO
  iintro ⟨HD002, HC002, HT02, HX02, HO⟩
  iapply (curry6 (G := owesN c (ord (0, 1, 2) + 1)) (mid_step P K c (b := 0) (k := 3) (by decide) (by decide) rfl rfl rfl rfl rfl acc_pay stage_pay (by decide) (Fin.ext ((by decide : ∀ c : Dev nD, k0_dev14 c = (pt (0, 1, 3) c).val) c)) rfl rfl)) $$ HI Hlev HT03 HR013 HX03 HO
  iintro ⟨HD003, HC003, HT03, HX03, HO⟩
  iapply (curry6 (G := owesN c (ord (0, 1, 3) + 1)) (mid_step P K c (b := 1) (k := 0) (by decide) (by decide) rfl rfl rfl rfl rfl acc_pay stage_pay (by decide) (Fin.ext ((by decide : ∀ c : Dev nD, k0_dev15 c = (pt (1, 1, 0) c).val) c)) rfl rfl)) $$ HI Hlev HT10 HR110 HX10 HO
  iintro ⟨HD100, HC100, HT10, HX10, HO⟩
  iapply (curry6 (G := owesN c (ord (1, 1, 0) + 1)) (mid_step P K c (b := 1) (k := 1) (by decide) (by decide) rfl rfl rfl rfl rfl acc_pay stage_pay (by decide) (Fin.ext ((by decide : ∀ c : Dev nD, k0_dev16 c = (pt (1, 1, 1) c).val) c)) rfl rfl)) $$ HI Hlev HT11 HR111 HX11 HO
  iintro ⟨HD101, HC101, HT11, HX11, HO⟩
  iapply (curry6 (G := owesN c (ord (1, 1, 1) + 1)) (mid_step P K c (b := 1) (k := 2) (by decide) (by decide) rfl rfl rfl rfl rfl acc_pay stage_pay (by decide) (Fin.ext ((by decide : ∀ c : Dev nD, k0_dev17 c = (pt (1, 1, 2) c).val) c)) rfl rfl)) $$ HI Hlev HT12 HR112 HX12 HO
  iintro ⟨HD102, HC102, HT12, HX12, HO⟩
  iapply (curry6 (G := owesN c (ord (1, 1, 2) + 1)) (mid_step P K c (b := 1) (k := 3) (by decide) (by decide) rfl rfl rfl rfl rfl acc_pay stage_pay (by decide) (Fin.ext ((by decide : ∀ c : Dev nD, k0_dev18 c = (pt (1, 1, 3) c).val) c)) rfl rfl)) $$ HI Hlev HT13 HR113 HX13 HO
  iintro ⟨HD103, HC103, HT13, HX13, HO⟩
  -- the second phases complete
  iapply (curry5 (D := Och c 0 0 (cut (acc P 1 c) 0 0)) (E := owesN c (ord (1, 1, 3) + 1)) (fin_step P K c (b := 0) (p := 1) (k := 0) (m := 16) (by decide) (by decide) rfl rfl rfl (by decide) rfl rfl acc_pay)) $$ HI Hlev HT00 HX00 HO
  iintro ⟨HD010, HC010, HS00, HX00, HO⟩
  iapply (curry5 (D := Och c 0 1 (cut (acc P 1 c) 0 1)) (E := owesN c 16) (fin_step P K c (b := 0) (p := 1) (k := 1) (m := 16) (by decide) (by decide) rfl rfl rfl (by decide) rfl rfl acc_pay)) $$ HI Hlev HT01 HX01 HO
  iintro ⟨HD011, HC011, HS01, HX01, HO⟩
  iapply (curry5 (D := Och c 0 2 (cut (acc P 1 c) 0 2)) (E := owesN c 16) (fin_step P K c (b := 0) (p := 1) (k := 2) (m := 16) (by decide) (by decide) rfl rfl rfl (by decide) rfl rfl acc_pay)) $$ HI Hlev HT02 HX02 HO
  iintro ⟨HD012, HC012, HS02, HX02, HO⟩
  iapply (curry5 (D := Och c 0 3 (cut (acc P 1 c) 0 3)) (E := owesN c 16) (fin_step P K c (b := 0) (p := 1) (k := 3) (m := 16) (by decide) (by decide) rfl rfl rfl (by decide) rfl rfl acc_pay)) $$ HI Hlev HT03 HX03 HO
  iintro ⟨HD013, HC013, HS03, HX03, HO⟩
  iapply (curry5 (D := Och c 1 0 (cut (acc P 1 c) 1 0)) (E := owesN c 16) (fin_step P K c (b := 1) (p := 1) (k := 0) (m := 16) (by decide) (by decide) rfl rfl rfl (by decide) rfl rfl acc_pay)) $$ HI Hlev HT10 HX10 HO
  iintro ⟨HD110, HC110, HS10, HX10, HO⟩
  iapply (curry5 (D := Och c 1 1 (cut (acc P 1 c) 1 1)) (E := owesN c 16) (fin_step P K c (b := 1) (p := 1) (k := 1) (m := 16) (by decide) (by decide) rfl rfl rfl (by decide) rfl rfl acc_pay)) $$ HI Hlev HT11 HX11 HO
  iintro ⟨HD111, HC111, HS11, HX11, HO⟩
  iapply (curry5 (D := Och c 1 2 (cut (acc P 1 c) 1 2)) (E := owesN c 16) (fin_step P K c (b := 1) (p := 1) (k := 2) (m := 16) (by decide) (by decide) rfl rfl rfl (by decide) rfl rfl acc_pay)) $$ HI Hlev HT12 HX12 HO
  iintro ⟨HD112, HC112, HS12, HX12, HO⟩
  iapply (curry5 (D := Och c 1 3 (cut (acc P 1 c) 1 3)) (E := owesN c 16) (fin_step P K c (b := 1) (p := 1) (k := 3) (m := 16) (by decide) (by decide) rfl rfl rfl (by decide) rfl rfl acc_pay)) $$ HI Hlev HT13 HX13 HO
  iintro ⟨HD113, HC113, HS13, HX13, HO⟩
  iapply Hk
  isplitl [HO]; · iexact HO
  isplitl [Hbar HD000 HD001 HD002 HD003 HD100 HD101 HD102 HD103 HD010 HD011 HD012 HD013 HD110 HD111 HD112 HD113]
  · unfold finish
    isplitl [Hbar]; · iexact Hbar
    iapply (close_done c)
    isplitl [HD000]; · iexact HD000
    isplitl [HD001]; · iexact HD001
    isplitl [HD002]; · iexact HD002
    isplitl [HD003]; · iexact HD003
    isplitl [HD100]; · iexact HD100
    isplitl [HD101]; · iexact HD101
    isplitl [HD102]; · iexact HD102
    isplitl [HD103]; · iexact HD103
    isplitl [HD010]; · iexact HD010
    isplitl [HD011]; · iexact HD011
    isplitl [HD012]; · iexact HD012
    isplitl [HD013]; · iexact HD013
    isplitl [HD110]; · iexact HD110
    isplitl [HD111]; · iexact HD111
    isplitl [HD112]; · iexact HD112
    iexact HD113
  isplitl [HX HWq HK HV HWo]
  · isplitl [HX]; · iexact HX
    isplitl [HWq]; · iexact HWq
    isplitl [HK]; · iexact HK
    isplitl [HV] <;> iassumption
  isplitl [HX00 HX01 HX02 HX03 HX10 HX11 HX12 HX13]
  · iapply (curry8 (close_chunks c outM (acc P ((1 : Fin 2).val + 1) c))) $$ HX00 HX01 HX02 HX03 HX10 HX11 HX12 HX13
  isplitl [HZc]; · iexists _; iexact HZc
  isplitl [HS00 HS01 HS02 HS03 HS10 HS11 HS12 HS13]
  · iexists (stg P (1 : Fin 2).val c)
    iapply (curry8 (close_chunks c stgM (stg P (1 : Fin 2).val c))) $$ HS00 HS01 HS02 HS03 HS10 HS11 HS12 HS13
  isplitl [HC000 HC001 HC002 HC003 HC010 HC011 HC012 HC013]
  · iapply (curry8 (A := Cch c 0 0 0 (cut (stg P 0 (pt (0, 0, 0) c)) 0 0)) (B := Cch c 0 0 1 (cut (stg P 0 (pt (0, 0, 1) c)) 0 1)) (C := Cch c 0 0 2 (cut (stg P 0 (pt (0, 0, 2) c)) 0 2)) (D := Cch c 0 0 3 (cut (stg P 0 (pt (0, 0, 3) c)) 0 3)) (close_comm c 0 fun p k => cut (stg P p.val (pt (0, p, k) c)) 0 k)) $$ HC000 HC001 HC002 HC003 HC010 HC011 HC012 HC013
  · iapply (curry8 (A := Cch c 1 0 0 (cut (stg P 0 (pt (1, 0, 0) c)) 1 0)) (B := Cch c 1 0 1 (cut (stg P 0 (pt (1, 0, 1) c)) 1 1)) (C := Cch c 1 0 2 (cut (stg P 0 (pt (1, 0, 2) c)) 1 2)) (D := Cch c 1 0 3 (cut (stg P 0 (pt (1, 0, 3) c)) 1 3)) (close_comm c 1 fun p k => cut (stg P p.val (pt (1, p, k) c)) 1 k)) $$ HC100 HC101 HC102 HC103 HC110 HC111 HC112 HC113

end Cert.KernelIdeal.Talk
-- ==== Proof.Region.lean ====
/- The kernel call of the program on one device: what its buffers hold before and after, and the body of the kernel between them. -/
module

public import proofs.«01_k».proof.Proof.Body
public import Idealize.ShloMosaic.Lib.Pipeline.RegionTalk
public import Idealize.ShloMosaic.Lib.Pipeline.Value

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
variable (m : (ℓ : Loc nD τ sig) → Buf (Elt F) ℓ)

local notation "𝕄" => MT nD τ sig Unit (Elt F) ℕ UU ℕ

/-! ## Contents -/

/-- Device `c`'s own summand of the result: attention over its heads, projected, from its arrays as the host operations leave them. -/
def mine (c : Dev nD) : S2x128x512.Idx → Elt F .f32 :=
  part (V1 m c main_arg0) (V1 m c main_arg1) (V1 m c main_v9) (V1 m c main_v14) (V1 m c main_arg4)

/-- What the kernel leaves in the result: the sum of the summands of all devices. -/
def total (c : Dev nD) : S2x128x512.Idx → Elt F .f32 := acc (mine m) 2 c

/-- The one result the program leaves on each device. -/
def outs : Outs (F := F) := fun _ r c => Function.update (V1 m c) (Proc.devRef .tc main_v15) (total m c) (Proc.devRef .tc r)

/-! ## The call's data -/

/-- The protocol's share of device `c` before the body. -/
def before (c : Dev nD) : sProp 𝕄 := iprop((∃ K, Inv (mine m) K) ∗ start c ∗ levAts L lv)
/-- The semaphores of a transfer, at zero. -/
def spent (t : T) (c : Dev nD) : sProp 𝕄 := iprop(semVal (sendCell t c) 0 ∗ semVal (recvCell t c) 0)
/-- All semaphores at zero. -/
def after (c : Dev nD) : sProp 𝕄 := iprop(semVal (barCell c) 0 ∗ bigSep Finset.univ fun t : T => spent t c)

/-- The data of the call on device `c`: what each window holds before and after the one step, what the device owes, and what else it keeps. -/
def dat (c : Dev nD) : Dat τ (Elt F) Unit ℕ UU ℕ cfg0 c where
  A w := V1 m c (Proc.devRef .tc (Pipeline.arrRef spec0 w))
  after w _ := match w with
    | ⟨0, _⟩ => V1 m c main_arg0
    | ⟨1, _⟩ => V1 m c main_arg1
    | ⟨2, _⟩ => V1 m c main_v9
    | ⟨3, _⟩ => V1 m c main_v14
    | ⟨4, _⟩ => V1 m c main_arg4
    | ⟨5, _⟩ => total m c
  Φ t := match t with
    | ⟨0, _⟩ => iprop(before m c ∗ scratch c ∗ ∃ r, prngReg c r)
    | ⟨_ + 1, _⟩ => iprop(after c ∗ scratch c ∗ ∃ r, prngReg c r)
  q _ := fullShare
  owed t := match t with
    | ⟨0, _⟩ => O₀ c
    | ⟨_ + 1, _⟩ => 0

/-- The data of every call; there is one. -/
def dats : (p : Fin 1) → (c : Dev nD) → Dat τ (Elt F) Unit ℕ UU ℕ (cfgs p) c := fun _ c => dat m c

/-- Before the body everything is owed. -/
theorem owed_first (c : Dev nD) : (dat m c).owed t0_0.castSucc = O₀ c := rfl
/-- After the body nothing is owed. -/
theorem owed_last (c : Dev nD) : (dat m c).owed t0_0.succ = 0 := rfl

/-- Owing nothing after the last transfer is what the call asks for at its end. -/
theorem owes_in (c : Dev nD) : (owesN c 16 : sProp 𝕄) ⊢ ((dat m c).owesAt () t0_0.succ : sProp 𝕄) := by
  unfold Dat.owesAt Pipeline.owesWithin Dat.bound owesN
  rw [owed_last, due_end]
  iintro ⟨%W, HO⟩; iexists W
  isplitr; · ipureintro; exact fun _ _ => Or.inl trivial
  iexact HO
/-- What the call provides at its start is what the body starts from owing. -/
theorem owes_out (c : Dev nD) : ((dat m c).owesAt () t0_0.castSucc : sProp 𝕄) ⊢ iprop(∃ W, owes (c : Thread nD τ) (O₀ c) W) := by
  unfold Dat.owesAt Pipeline.owesWithin
  rw [owed_first]
  iintro ⟨%W, -, HO⟩; iexists W; iexact HO

/-- A window over a whole array reads the array. -/
theorem read_0 (X : main_arg0.ty.Contents (Elt F)) : (win0_0.blk t0_0).view.read (Elt F) X = X := by
  funext i; refine congrArg X (funext fun a => Fin.ext ?_)
  show 0 * _ + 1 * (i a).val = _
  omega
/-- The query weights' window reads its array. -/
theorem read_1 (X : main_arg1.ty.Contents (Elt F)) : (win0_1.blk t0_0).view.read (Elt F) X = X := by
  funext i; refine congrArg X (funext fun a => Fin.ext ?_)
  show 0 * _ + 1 * (i a).val = _
  omega
/-- The keys' window reads its array. -/
theorem read_2 (X : main_v9.ty.Contents (Elt F)) : (win0_2.blk t0_0).view.read (Elt F) X = X := by
  funext i; refine congrArg X (funext fun a => Fin.ext ?_)
  show 0 * _ + 1 * (i a).val = _
  omega
/-- The values' window reads its array. -/
theorem read_3 (X : main_v14.ty.Contents (Elt F)) : (win0_3.blk t0_0).view.read (Elt F) X = X := by
  funext i; refine congrArg X (funext fun a => Fin.ext ?_)
  show 0 * _ + 1 * (i a).val = _
  omega
/-- The output weights' window reads its array. -/
theorem read_4 (X : main_arg4.ty.Contents (Elt F)) : (win0_4.blk t0_0).view.read (Elt F) X = X := by
  funext i; refine congrArg X (funext fun a => Fin.ext ?_)
  show 0 * _ + 1 * (i a).val = _
  omega
/-- The result's window reads its array. -/
theorem read_5 (X : main_v15.ty.Contents (Elt F)) : (win0_5.blk t0_0).view.read (Elt F) X = X := by
  funext i; refine congrArg X (funext fun a => Fin.ext ?_)
  show 0 * _ + 1 * (i a).val = _
  omega

/-- The body finds the activations. -/
theorem before_0 (c : Dev nD) (d) : (dat m c).before (0 : Fin 6) t0_0 d = V1 m c main_arg0 := by
  unfold Dat.before; rw [if_pos (fetch0_0 t0_0)]; exact read_0 (V1 m c main_arg0)
/-- The body finds the query weights. -/
theorem before_1 (c : Dev nD) (d) : (dat m c).before (1 : Fin 6) t0_0 d = V1 m c main_arg1 := by
  unfold Dat.before; rw [if_pos (fetch0_1 t0_0)]; exact read_1 (V1 m c main_arg1)
/-- The body finds the keys of the device's heads. -/
theorem before_2 (c : Dev nD) (d) : (dat m c).before (2 : Fin 6) t0_0 d = V1 m c main_v9 := by
  unfold Dat.before; rw [if_pos (fetch0_2 t0_0)]; exact read_2 (V1 m c main_v9)
/-- The body finds the values of the device's heads. -/
theorem before_3 (c : Dev nD) (d) : (dat m c).before (3 : Fin 6) t0_0 d = V1 m c main_v14 := by
  unfold Dat.before; rw [if_pos (fetch0_3 t0_0)]; exact read_3 (V1 m c main_v14)
/-- The body finds the output weights. -/
theorem before_4 (c : Dev nD) (d) : (dat m c).before (4 : Fin 6) t0_0 d = V1 m c main_arg4 := by
  unfold Dat.before; rw [if_pos (fetch0_4 t0_0)]; exact read_4 (V1 m c main_arg4)

/-- The result array after the call. -/
theorem arrAt_5 (c : Dev nD) : (dat m c).arrAt (5 : Fin 6) cfg0.N = total m c := by
  refine (dat m c).arrAt_eq_of_cover (5 : Fin 6) (total m c) (fun t _ => ?_) fun i => ⟨t0_0, flush0_5 t0_0, ?_⟩
  · obtain rfl := fin_N0 t
    exact (read_5 (total m c)).symm
  · have h : (win0_5.blk t0_0).view.emb i = i := funext fun a => Fin.ext (by show 0 * _ + 1 * (i a).val = _; omega)
    have := (win0_5.blk t0_0).view.emb_mem_set i
    rwa [h] at this

/-! ## The end of the protocol -/

/-- A completed transfer gives its two semaphores back at zero. -/
theorem close_one (K : GSem nD τ sig → ℕ) (t : T) (c : Dev nD) : iprop(Inv (mine m) K ∗ done t c) ⊢ (|={Set.univ}=> spent t c : sProp 𝕄) := by
  unfold done spent
  iintro ⟨#HI, Hs, Hr⟩
  ihave #Hi := (inv_send (mine m) K t c) $$ HI
  ihave #Hj := (inv_recv (mine m) K t c) $$ HI
  imod (Rounds.cell_close ER (Rd (mine m)) (Set.mem_univ (K (sendCell t c))) id (R := 0 + 1) (fun r hr => duties_later (mine m) _ r hr)) $$ [Hs] with Hs
  · isplitr; · iexact Hi
    iexact Hs
  imod (Rounds.cell_close ER (Rd (mine m)) (Set.mem_univ (K (recvCell t c))) id (R := 0 + 1) (fun r hr => duties_later (mine m) _ r hr)) $$ [Hr] with Hr
  · isplitr; · iexact Hj
    iexact Hr
  imodintro
  isplitl [Hs] <;> iassumption

/-- At the end every semaphore is given back at zero. -/
theorem close_all (K : GSem nD τ sig → ℕ) (c : Dev nD) : iprop(Inv (mine m) K ∗ finish c) ⊢ (|={Set.univ}=> after c : sProp 𝕄) := by
  unfold finish after
  iintro ⟨#HI, Hb, Hd⟩
  ihave #Hi := (inv_bar (mine m) K c) $$ HI
  imod (Rounds.cell_close ER (Rd (mine m)) (Set.mem_univ (K (barCell c))) id (R := 0 + 1) (fun r hr => duties_later (mine m) _ r hr)) $$ [Hb] with Hb
  · isplitr; · iexact Hi
    iexact Hb
  ihave H := (bigSep_with_persistent (S := (Finset.univ : Finset T)) (R := Inv (mine m) K) (Φ := fun t : T => done t c)
    (Ψ := fun t : T => iprop(|={Set.univ}=> spent t c)) fun t _ => close_one m K t c) $$ [Hd]
  · isplitr; · iexact HI
    iexact Hd
  imod (bigSep_fupd (Finset.univ : Finset T) (fun t : T => (spent t c : sProp 𝕄))) $$ H with H
  imodintro
  isplitl [Hb] <;> iassumption

/-! ## The body -/

/-- The body does what the call's data say. -/
theorem body_ok (c : Dev nD) : BodyObligation (dat m c) (defs₀ (F := F)) 𝒱₀ () Set.univ := fun t => by
  obtain rfl := fin_N0 t
  rw [bigSep_W0, bigSep_W0]
  show iprop(iprop(before m c ∗ scratch c ∗ ∃ r, prngReg c r) ∗ (dat m c).owesAt () t0_0.castSucc
    ∗ (∃ d, owns (c : Thread nD τ) xM fullShare ((dat m c).before (0 : Fin 6) t0_0 d))
    ∗ (∃ d, owns (c : Thread nD τ) wqM fullShare ((dat m c).before (1 : Fin 6) t0_0 d))
    ∗ (∃ d, owns (c : Thread nD τ) kM fullShare ((dat m c).before (2 : Fin 6) t0_0 d))
    ∗ (∃ d, owns (c : Thread nD τ) vM fullShare ((dat m c).before (3 : Fin 6) t0_0 d))
    ∗ (∃ d, owns (c : Thread nD τ) woM fullShare ((dat m c).before (4 : Fin 6) t0_0 d))
    ∗ (∃ d, owns (c : Thread nD τ) outM fullShare ((dat m c).before (5 : Fin 6) t0_0 d)))
    ⊢ wpk c theBody fun _ => iprop(iprop(after c ∗ scratch c ∗ ∃ r, prngReg c r) ∗ (dat m c).owesAt () t0_0.succ
    ∗ owns (c : Thread nD τ) xM fullShare (V1 m c main_arg0) ∗ owns (c : Thread nD τ) wqM fullShare (V1 m c main_arg1)
    ∗ owns (c : Thread nD τ) kM fullShare (V1 m c main_v9) ∗ owns (c : Thread nD τ) vM fullShare (V1 m c main_v14)
    ∗ owns (c : Thread nD τ) woM fullShare (V1 m c main_arg4) ∗ owns (c : Thread nD τ) outM fullShare (total m c))
  simp only [before_0, before_1, before_2, before_3, before_4]
  unfold before
  iintro ⟨⟨⟨⟨%K, #HI⟩, Hst, #Hlev⟩, Hscr, Hp⟩, HO, ⟨%d0, H0⟩, ⟨%d1, H1⟩, ⟨%d2, H2⟩, ⟨%d3, H3⟩, ⟨%d4, H4⟩, ⟨%d5, H5⟩⟩
  iapply (body_run (mine m) K c (V1 m c main_arg0) (V1 m c main_arg1) (V1 m c main_v9) (V1 m c main_v14) (V1 m c main_arg4) rfl _) $$ [Hst Hscr HO H0 H1 H2 H3 H4 H5]
  · isplitr; · iexact HI
    isplitr; · iexact Hlev
    isplitl [HO]; · iapply (owes_out m c); iexact HO
    isplitl [Hst]; · iexact Hst
    isplitl [H0 H1 H2 H3 H4]
    · unfold inputs
      isplitl [H0]; · iexact H0
      isplitl [H1]; · iexact H1
      isplitl [H2]; · iexact H2
      isplitl [H3]; · iexact H3
      iexact H4
    isplitl [H5]; · iexists _; iexact H5
    iexact Hscr
  unfold inputs
  iintro ⟨HO, Hf, ⟨H0, H1, H2, H3, H4⟩, H5, Hscr⟩
  imod (close_all m K c) $$ [Hf] with Ha
  · isplitr; · iexact HI
    iexact Hf
  rw [wp_ret]
  imodintro
  isplitl [Ha Hscr Hp]
  · isplitl [Ha]; · iexact Ha
    isplitl [Hscr] <;> iassumption
  isplitl [HO]; · iapply (owes_in m c); iexact HO
  isplitl [H0]; · iexact H0
  isplitl [H1]; · iexact H1
  isplitl [H2]; · iexact H2
  isplitl [H3]; · iexact H3
  isplitl [H4]; · iexact H4
  iexact H5

end Cert.KernelIdeal.Talk

end
-- ==== Proof.Launch.lean ====
/- The kernel call as one region of the program: the semaphores opened on entry, the arrays before and after. -/
module

public import proofs.«01_k».proof.Proof.Region

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
variable (m : (ℓ : Loc nD τ sig) → Buf (Elt F) ℓ)

local notation "𝕄" => MT nD τ sig Unit (Elt F) ℕ UU ℕ

/-! ## The kernel's own semaphores, by transfer -/

/-- Number `i` of the kernel's own semaphores sends or receives a transfer. -/
def byT : T × Fin 2 ≃ Fin 32 where
  toFun x := if x.2 = 0 then sendIx x.1 else recvIx x.1
  invFun i := ((⟨i.val / 16, by omega⟩, ⟨i.val % 8 / 4, by omega⟩, ⟨i.val % 4, by omega⟩), ⟨i.val % 16 / 8, by omega⟩)
  left_inv := by decide
  right_inv := by decide

/-- Over all own semaphores is over both semaphores of every transfer. -/
theorem over_own (Φ : SemLoc sig → sProp (MT nD τ sig Unit (Elt F) ℕ UU ℕ)) :
    (bigSep Finset.univ fun i : Fin 32 => Φ (osem i)) = bigSep Finset.univ fun t : T => iprop(Φ (.dma (sendS t)) ∗ Φ (.dma (recvS t))) := by
  rw [BI.bigSep_univ_equiv byT, BI.bigSep_univ_prod]
  refine BI.bigSep_congr fun t _ => ?_
  rw [← osem_send, ← osem_recv]
  exact BI.bigSep_fin_two _

/-- The kernel's own semaphores at zero are those of all transfers at zero. -/
theorem own_eq (c : Dev nD) : (Pipeline.ownSems0 osem c : sProp 𝕄) = bigSep Finset.univ fun t : T => spent t c :=
  over_own (F := F) fun s => semVal ((c : Thread nD τ), s) 0

/-! ## Entering -/

/-- What a transfer is given at the launch: the rights to open its semaphores, the tokens of the two completions, the credit of the arrival. -/
def raw (t : T) (c : Dev nD) : sProp 𝕄 :=
  iprop((openTok ER (sendCell t c) ∗ openTok ER (recvCell t c)) ∗ (dutyTok ER (sendCell t c) 0 0 ∗ dutyTok ER (recvCell t (pt t c)) 0 0)
    ∗ cred (tallyAt (recvCell t c) () N))
/-- What a device is given at the launch. -/
def hold (c : Dev nD) : sProp 𝕄 :=
  iprop(atPos ER (barCell c) 0 ∅ 0 ∗ cred (tallyAt (barCell c) () 2)
    ∗ (dutyTok ER (barCell (pd 0 c)) 0 0 ∗ reached ER (barCell (pd 0 c)) 0) ∗ (dutyTok ER (barCell (pd 1 c)) 0 1 ∗ reached ER (barCell (pd 1 c)) 0)
    ∗ bigSep Finset.univ fun t : T => raw t c)
/-- What a device brings to the call: the invariants and what it was given at the launch. -/
def given (c : Dev nD) : sProp 𝕄 := iprop((∃ K, Inv (mine m) K) ∗ hold c)

/-- A transfer's two semaphores at zero are put under their invariants, and the transfer is set up. -/
theorem open_one (K : GSem nD τ sig → ℕ) (t : T) (c : Dev nD) :
    iprop(Inv (mine m) K ∗ raw t c ∗ spent t c) ⊢ (|={Set.univ}=> iprop(reached ER (recvCell t c) 0 ∗ fresh t c) : sProp 𝕄) := by
  unfold raw spent fresh idle
  iintro ⟨#HI, ⟨⟨Hos, Hor⟩, ⟨Hts, Htr⟩, Hc⟩, Hvs, Hvr⟩
  ihave #Hi := (inv_send (mine m) K t c) $$ HI
  ihave #Hj := (inv_recv (mine m) K t c) $$ HI
  imod (Rounds.cell_open ER (Rd (mine m)) (g := sendCell t c) (Set.mem_univ (K (sendCell t c)))) $$ [Hos Hvs] with ⟨Has, #Hrs⟩
  · isplitr; · iexact Hi
    isplitl [Hos] <;> iassumption
  imod (Rounds.cell_open ER (Rd (mine m)) (g := recvCell t c) (Set.mem_univ (K (recvCell t c)))) $$ [Hor Hvr] with ⟨Har, #Hrr⟩
  · isplitr; · iexact Hj
    isplitl [Hor] <;> iassumption
  imodintro
  isplitr; · iexact Hrr
  isplitl [Hts]; · iexact Hts
  isplitl [Htr]; · iexact Htr
  isplitr; · iexact Hrs
  isplitl [Has]; · iexact Has
  isplitl [Har] <;> iassumption

/-- The same for every transfer: the device is ready for the body. -/
theorem open_all (c : Dev nD) : iprop(given m c ∗ Pipeline.ownSems0 osem c ∗ levAts L lv) ⊢ (|={Set.univ}=> before m c : sProp 𝕄) := by
  rw [own_eq]
  unfold given hold before start allReached
  iintro ⟨⟨⟨%K, #HI⟩, Hat, Hc, H0, H1, Hraw⟩, Hsp, #Hlev⟩
  ihave H := (Entails.of_eq (BI.bigSep_sep' (Finset.univ : Finset T) (fun t : T => (raw t c : sProp 𝕄)) (fun t : T => (spent t c : sProp 𝕄))).symm) $$ [Hraw Hsp]
  · isplitl [Hraw] <;> iassumption
  ihave H := (bigSep_with_persistent (S := (Finset.univ : Finset T)) (R := Inv (mine m) K) (Φ := fun t : T => iprop(raw t c ∗ spent t c))
    (Ψ := fun t : T => iprop(|={Set.univ}=> iprop(reached ER (recvCell t c) 0 ∗ fresh t c))) fun t _ => open_one m K t c) $$ [H]
  · isplitr; · iexact HI
    iexact H
  imod (bigSep_fupd (Finset.univ : Finset T) (fun t : T => (iprop(reached ER (recvCell t c) 0 ∗ fresh t c) : sProp 𝕄))) $$ H with H
  ihave H := (Entails.of_eq (BI.bigSep_sep' (Finset.univ : Finset T) (fun t : T => (reached ER (recvCell t c) 0 : sProp 𝕄)) (fun t : T => (fresh t c : sProp 𝕄)))) $$ H
  icases H with ⟨HR, HF⟩
  imodintro
  isplitr; · iexists K; iexact HI
  isplitl
  · isplitl [Hat]; · iexact Hat
    isplitl [Hc]; · iexact Hc
    isplitl [H0]; · iexact H0
    isplitl [H1]; · iexact H1
    isplitl [HR] <;> iassumption
  iexact Hlev

/-! ## The region -/

/-- A buffer at some contents, owned as a whole. -/
theorem whole_in (c : Dev nD) (b : Ref sig .tc) : (iprop(∃ f : Buf (Elt F) ((c : Thread nD τ).loc b), ((c : Thread nD τ).loc b) ↦{fullShare} f) : sProp 𝕄)
    ⊢ iprop(∃ Z, owns (c : Thread nD τ) (Memref.whole b) fullShare Z) := by
  iintro ⟨%f, H⟩; iexists f; iapply (Entails.of_eq (owns_whole (c : Thread nD τ) b fullShare f).symm) $$ H
/-- A buffer owned as a whole is a buffer at some contents. -/
theorem whole_out (c : Dev nD) (b : Ref sig .tc) : (iprop(∃ Z, owns (c : Thread nD τ) (Memref.whole b) fullShare Z) : sProp 𝕄)
    ⊢ iprop(∃ f : Buf (Elt F) ((c : Thread nD τ).loc b), ((c : Thread nD τ).loc b) ↦{fullShare} f) := by
  iintro ⟨%f, H⟩; iexists f; iapply (Entails.of_eq (owns_whole (c : Thread nD τ) b fullShare f)) $$ H

/-- The buffers of the call that hold no window are the scratch buffers. -/
theorem scratch_in (c : Dev nD) : (Pipeline.scopedRest (Ix := Unit) (Name := ℕ) (U := UU) (Lvl := ℕ) (Val := Elt F) spec0 c : sProp 𝕄) ⊢ scratch c := by
  rw [scopedRest0_eq]
  unfold scratch
  exact BI.sep_mono (whole_in c cc0_scratch0) (BI.sep_mono (whole_in c cc0_scratch1) (BI.sep_mono (whole_in c cc0_scratch2) (whole_in c cc0_scratch3)))
/-- The scratch buffers are given back. -/
theorem scratch_out (c : Dev nD) : (scratch c : sProp 𝕄) ⊢ Pipeline.scopedRest (Ix := Unit) (Name := ℕ) (U := UU) (Lvl := ℕ) (Val := Elt F) spec0 c := by
  rw [scopedRest0_eq]
  unfold scratch
  exact BI.sep_mono (whole_out c cc0_scratch0) (BI.sep_mono (whole_out c cc0_scratch1) (BI.sep_mono (whole_out c cc0_scratch2) (whole_out c cc0_scratch3)))

/-- What the call provides is what the body starts from. -/
theorem region_in (c : Dev nD) : iprop(Pipeline.scopedRest (Ix := Unit) (Name := ℕ) (U := UU) (Lvl := ℕ) (Val := Elt F) spec0 c ∗ (∃ r, prngReg c r)
      ∗ StableHlo.held (c.tc : Thread nD τ) ∅ (V1 m c) ∗ before m c)
    ⊢ ((dat m c).Φ 0 : sProp 𝕄) := by
  show _ ⊢ iprop(before m c ∗ scratch c ∗ ∃ r, prngReg c r)
  iintro ⟨Hs, Hp, -, Hb⟩
  isplitl [Hb]; · iexact Hb
  isplitl [Hs]; · iapply (scratch_in c); iexact Hs
  iexact Hp

/-- What the body ends with is what the call takes back. -/
theorem region_out (c : Dev nD) : ((dat m c).Φ (Fin.last cfg0.N) : sProp 𝕄)
    ⊢ iprop(Pipeline.scopedRest (Ix := Unit) (Name := ℕ) (U := UU) (Lvl := ℕ) (Val := Elt F) spec0 c ∗ (∃ r, prngReg c r)
      ∗ StableHlo.held (c.tc : Thread nD τ) ∅ (V2 m (outs m) c) ∗ Pipeline.ownSems0 osem c ∗ semVal (barCell c) 0) := by
  rw [own_eq]
  show iprop(after c ∗ scratch c ∗ ∃ r, prngReg c r) ⊢ _
  unfold after
  iintro ⟨⟨Hb, Hd⟩, Hs, Hp⟩
  isplitl [Hs]; · iapply (scratch_out c); iexact Hs
  isplitl [Hp]; · iexact Hp
  isplitr
  · iapply (show (BI.emp : sProp 𝕄) ⊢ StableHlo.held (c.tc : Thread nD τ) ∅ (V2 m (outs m) c) from
      Entails.of_eq (by unfold StableHlo.held; exact BI.bigSep_empty.symm))
    iempintro
  isplitl [Hd] <;> iassumption

/-- What a device owes during the call is on a semaphore with a level above 0. -/
theorem owed_cut (c : Dev nD) (t : Fin (cfg0.N + 1)) (g : GSem nD τ sig) (i : Unit) (h : 0 < (dat m c).owed t g i) : i ∈ L g ∧ 0 < lv g i := by
  have hO : ∀ g : GSem nD τ sig, 0 < O₀ c g i → i ∈ L g ∧ 0 < lv g i := by
    intro g h
    unfold O₀ at h
    rw [Pi.add_apply, Finsupp.add_apply, Pi.add_apply, Finsupp.add_apply] at h
    have hb (d : Fin 2) (h : 0 < (tallyAt (barCell (pd d c)) () 1 : CellTallies nD τ sig Unit) g i) : i ∈ L g ∧ 0 < lv g i := by
      rw [tallyAt_apply] at h
      split at h
      · next hg =>
        obtain ⟨rfl, -⟩ := hg
        exact ⟨by rw [L_tc]; exact Finset.mem_singleton_self _, Nat.one_pos⟩
      · exact absurd h (Nat.lt_irrefl 0)
    rcases Nat.add_pos_iff_pos_or_pos.mp h with h | h
    · rcases Nat.add_pos_iff_pos_or_pos.mp h with h | h
      · obtain ⟨t, -, rfl⟩ := due_pos h
        exact ⟨by rw [L_tc]; exact Finset.mem_singleton_self _, by rw [show i = () from rfl, lv_recv]; omega⟩
      · exact hb 1 h
    · exact hb 0 h
  rcases t with ⟨_ | n, ht⟩
  · exact hO g h
  · exact absurd h (Nat.lt_irrefl 0)

/-- The semaphores of the windows have level 0. -/
theorem lv_stage : ∀ (w : Fin 6) (s : Fin (win0 w).nbuf), lvOf (.dma ((win0 w).sem s)) ≤ 0 := by decide

/-- What the device holds beside its arrays: its part of the protocol and its register before the call, and after. -/
def beside : Fin 2 → Dev nD → sProp (MT nD τ sig Unit (Elt F) ℕ UU ℕ)
  | 0 => fun c => iprop(given m c ∗ (∃ r, prngReg c r) ∗ ∃ W, owes (c : Thread nD τ) (O₀ c) W)
  | 1 => fun c => iprop(semVal (barCell c) 0 ∗ ∃ W, owes (c : Thread nD τ) (0 : CellTallies nD τ sig Unit) W)

/-- The arrays the windows are cut from. -/
abbrev inner : Finset (DevRef τ sig) := Pipeline.arrRefs (τ := τ) spec0
/-- The other arrays. -/
abbrev outer : Finset (DevRef τ sig) := Pipeline.ucRefs τ sig \ inner

/-- Every window's array is owned in full. -/
theorem share_full (c : Dev nD) (w : Fin 6) : (dat m c).share w = fullShare := by unfold Dat.share; split <;> rfl

/-- After the call the result array holds the total. -/
theorem V2_out (c : Dev nD) : V2 m (outs m) c main_v15 = total m c := by
  simp only [V2, Function.update_self]
  unfold outs
  rw [Function.update_self]

/-- After the call every window's array holds what the program's state says. -/
theorem arr_after (c : Dev nD) (w : Fin 6) : (dat m c).arrAt w cfg0.N = V2 m (outs m) c (Proc.devRef .tc (Pipeline.arrRef spec0 w)) := by
  fin_cases w
  · exact ((dat m c).arrAt_in (0 : Fin 6) rfl _).trans (V2_of m (outs m) c main_arg0 (by decide)).symm
  · exact ((dat m c).arrAt_in (1 : Fin 6) rfl _).trans (V2_of m (outs m) c main_arg1 (by decide)).symm
  · exact ((dat m c).arrAt_in (2 : Fin 6) rfl _).trans (V2_of m (outs m) c main_v9 (by decide)).symm
  · exact ((dat m c).arrAt_in (3 : Fin 6) rfl _).trans (V2_of m (outs m) c main_v14 (by decide)).symm
  · exact ((dat m c).arrAt_in (4 : Fin 6) rfl _).trans (V2_of m (outs m) c main_arg4 (by decide)).symm
  · exact (arrAt_5 m c).trans (V2_out m c).symm

/-- The result array is a window's array. -/
theorem out_inner : (Proc.devRef .tc main_v15 : DevRef τ sig) ∈ inner := by decide

/-- The call changes no other array. -/
theorem outer_same (c : Dev nD) (b : DevRef τ sig) (hb : b ∈ outer \ ∅) : V2 m (outs m) c b = V1 m c b := by
  have hb' : b ≠ (Proc.devRef .tc main_v15 : DevRef τ sig) := fun h => by
    rw [Finset.mem_sdiff] at hb
    exact (Finset.mem_sdiff.mp hb.1).2 (h ▸ out_inner)
  simp only [V2, Function.update_of_ne hb']

set_option backward.isDefEq.respectTransparency.types false in
/-- The kernel call. -/
def call : Pipeline.RegionSeg (Name := ℕ) (U := UU) (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ outer (Finset.empty_subset _) launch0.toP rfl (fun c => (body_ok m c).loose)
    (fun _ => 0) O₀ (fun c => (zero_add _).symm) (fun c => rfl) (fun _ => rfl) (share_full m)
    (V1 m) (V2 m (outs m)) (outer_same m)
    (given m) (fun c => semVal (barCell c) 0) (before m) (fun c => semVal (barCell c) 0) (open_all m) (region_in m) (region_out m)
    (fun c => by iintro H; imodintro; iexact H)
    (fun _ => 0)
    ⟨fun c w s => by rw [L_tc]; exact Finset.mem_singleton_self _, fun c w s => lv_stage w s, owed_cut m⟩
    (fun _ => iprop(emp))
    (fun c w => rfl) (arr_after m)

/-- The windows' arrays are among the program's arrays. -/
theorem inner_sub : inner ⊆ Pipeline.ucRefs τ sig := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  revert w; decide

/-- The program's arrays are the windows' arrays and the others. -/
theorem held_split (c : Dev nD) (V : Valuation τ sig (Elt F)) :
    (StableHlo.held (c : Thread nD τ) (Pipeline.ucRefs τ sig) V : sProp 𝕄) = iprop(StableHlo.held (c : Thread nD τ) inner V ∗ StableHlo.held (c : Thread nD τ) outer V) :=
  StableHlo.held_sub_split (c : Thread nD τ) inner_sub V

set_option backward.isDefEq.respectTransparency.types false in
/-- What a device holds before the call is what the call asks for. -/
theorem call_pre (c : Dev nD) : iprop(StableHlo.held (c : Thread nD τ) (Pipeline.ucRefs τ sig) (V1 m c) ∗ beside m 0 c) ⊢ (call m).pre c := by
  show _ ⊢ iprop(StableHlo.held (c.tc : Thread nD τ) inner (V1 m c) ∗ (∃ r, prngReg c r)
    ∗ (StableHlo.held (c.tc : Thread nD τ) outer (V1 m c) ∗ emp) ∗ given m c ∗ ∃ Wd, owes (c : Thread nD τ) (0 + O₀ c) Wd)
  rw [held_split, zero_add]
  unfold beside
  iintro ⟨⟨Hi, Ho⟩, Hg, Hp, HO⟩
  isplitl [Hi]; · iexact Hi
  isplitl [Hp]; · iexact Hp
  isplitl [Ho]
  · isplitl [Ho]; · iexact Ho
    iempintro
  isplitl [Hg] <;> iassumption

set_option backward.isDefEq.respectTransparency.types false in
/-- What the call leaves is what the device holds after it. -/
theorem call_post (c : Dev nD) : (call m).post c ⊢ iprop(StableHlo.held (c : Thread nD τ) (Pipeline.ucRefs τ sig) (V2 m (outs m) c) ∗ beside m 1 c) := by
  show iprop(StableHlo.held (c.tc : Thread nD τ) inner (V2 m (outs m) c) ∗ (∃ r, prngReg c r)
    ∗ (StableHlo.held (c.tc : Thread nD τ) outer (V2 m (outs m) c) ∗ emp) ∗ semVal (barCell c) 0 ∗ ∃ Wd, owes (c : Thread nD τ) (0 : CellTallies nD τ sig Unit) Wd) ⊢ _
  rw [held_split]
  unfold beside
  iintro ⟨Hi, -, ⟨Ho, -⟩, Hb, HO⟩
  isplitl [Hi Ho]
  · isplitl [Hi] <;> iassumption
  isplitl [Hb] <;> iassumption

end Cert.KernelIdeal.Talk

end
-- ==== Proof.Run.lean ====
/- The launch of the protocol on the four devices, and the run of the whole program. -/
module

public import proofs.«01_k».proof.Proof.Launch

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ UU ℕ

/-! ## The duty tokens -/

/-- The duties on one device's semaphores: two on its barrier, one on each semaphore of a transfer. -/
def dutyAt : Fin 2 ⊕ Fin 32 → SemLoc sig × Fin 2
  | .inl d => (.reg barS, d)
  | .inr i => (osem i, 0)
/-- The barrier is none of the kernel's own semaphores. -/
theorem osem_ne_bar : ∀ i : Fin 32, osem i ≠ .reg barS := by decide
/-- Different duties are on different semaphores or from different directions. -/
theorem dutyAt_inj : Function.Injective dutyAt := by
  rintro (d | i) (e | j) h
  · exact congrArg Sum.inl (congrArg Prod.snd h)
  · exact absurd (congrArg Prod.fst h).symm (osem_ne_bar j)
  · exact absurd (congrArg Prod.fst h) (osem_ne_bar i)
  · exact congrArg Sum.inr (osem_inj (congrArg Prod.fst h))

/-- The duties of all devices. -/
def toks : Finset (GSem nD τ sig × ℕ × Fin 2) :=
  Finset.univ.map ⟨fun x : Dev nD × (Fin 2 ⊕ Fin 32) => (((x.1 : Thread nD τ), (dutyAt x.2).1), 0, (dutyAt x.2).2), fun _ _ h =>
    Prod.ext (congrArg (fun t : GSem nD τ sig × ℕ × Fin 2 => t.1.1.1) h)
      (dutyAt_inj (Prod.ext (congrArg (fun t : GSem nD τ sig × ℕ × Fin 2 => t.1.2) h) (congrArg (fun t : GSem nD τ sig × ℕ × Fin 2 => t.2.2) h)))⟩

/-- No barrier is a transfer's semaphore. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A device's own duty tokens. -/
def ownToks (c : Dev nD) : sProp 𝕄 :=
  iprop((dutyTok ER (barCell c) 0 0 ∗ dutyTok ER (barCell c) 0 1)
    ∗ bigSep Finset.univ fun t : T => iprop(dutyTok ER (sendCell t c) 0 0 ∗ dutyTok ER (recvCell t c) 0 0))

/-- The duty tokens of the launch are every device's own. -/
theorem toks_own : bigSep toks (fun x => (dutyTok ER x.1 x.2.1 x.2.2 : sProp 𝕄)) = bigSep Finset.univ fun c : Dev nD => ownToks c := by
  unfold toks
  rw [BI.bigSep_map, BI.bigSep_univ_prod]
  refine BI.bigSep_congr fun c _ => ?_
  rw [BI.bigSep_univ_sum, BI.bigSep_fin_two]
  unfold ownToks
  exact congrArg (fun X : sProp 𝕄 => iprop((dutyTok ER (barCell c) 0 0 ∗ dutyTok ER (barCell c) 0 1) ∗ X))
    (over_own (F := F) fun s => dutyTok ER ((c : Thread nD τ), s) 0 0)

/-- The exchange of every device with its neighbour in direction `d`. -/
def swap (d : Fin 2) : Dev nD ≃ Dev nD := ⟨pd d, pd d, pd_pd d, pd_pd d⟩

/-- The duty tokens a device is given: of each neighbour's barrier, of its own sends, of the arrivals at its partners. -/
def payToks (c : Dev nD) : sProp 𝕄 :=
  iprop((dutyTok ER (barCell (pd 0 c)) 0 0 ∗ dutyTok ER (barCell (pd 1 c)) 0 1)
    ∗ bigSep Finset.univ fun t : T => iprop(dutyTok ER (sendCell t c) 0 0 ∗ dutyTok ER (recvCell t (pt t c)) 0 0))

/-- Over devices and then transfers is over transfers and then devices. -/
theorem other_order (Φ : Dev nD → T → sProp 𝕄) :
    (bigSep Finset.univ fun c : Dev nD => bigSep Finset.univ fun t : T => Φ c t) = bigSep Finset.univ fun t : T => bigSep Finset.univ fun c : Dev nD => Φ c t := by
  rw [← BI.bigSep_univ_prod fun x : Dev nD × T => Φ x.1 x.2, ← BI.bigSep_univ_prod fun x : T × Dev nD => Φ x.2 x.1]
  exact BI.bigSep_univ_equiv (Equiv.prodComm T (Dev nD)) fun x : Dev nD × T => Φ x.1 x.2

/-- Each arrival's token passes to the partner whose copy pays it. -/
theorem sides_around :
    (bigSep Finset.univ fun c : Dev nD => bigSep Finset.univ fun t : T => (iprop(dutyTok ER (sendCell t c) 0 0 ∗ dutyTok ER (recvCell t c) 0 0) : sProp 𝕄))
      = bigSep Finset.univ fun c : Dev nD => bigSep Finset.univ fun t : T => iprop(dutyTok ER (sendCell t c) 0 0 ∗ dutyTok ER (recvCell t (pt t c)) 0 0) := by
  rw [other_order fun (c : Dev nD) (t : T) => (iprop(dutyTok ER (sendCell t c) 0 0 ∗ dutyTok ER (recvCell t c) 0 0) : sProp 𝕄),
    other_order fun (c : Dev nD) (t : T) => (iprop(dutyTok ER (sendCell t c) 0 0 ∗ dutyTok ER (recvCell t (pt t c)) 0 0) : sProp 𝕄)]
  refine BI.bigSep_congr fun t _ => ?_
  rw [bigSep_sep', bigSep_sep', BI.bigSep_univ_equiv (swap (dir t)) (fun c : Dev nD => (dutyTok ER (recvCell t c) 0 0 : sProp 𝕄))]
  rfl

/-- Every device's own tokens, dealt to the devices that pay. -/
theorem toks_around : (bigSep Finset.univ fun c : Dev nD => (ownToks c : sProp 𝕄)) = bigSep Finset.univ fun c : Dev nD => payToks c := by
  unfold ownToks payToks
  rw [bigSep_sep', bigSep_sep', bigSep_sep', bigSep_sep', sides_around,
    BI.bigSep_univ_equiv (swap 0) (fun c : Dev nD => (dutyTok ER (barCell c) 0 0 : sProp 𝕄)),
    BI.bigSep_univ_equiv (swap 1) (fun c : Dev nD => (dutyTok ER (barCell c) 0 1 : sProp 𝕄))]
  rfl

/-! ## The credits -/

/-- Different transfers have different receive semaphores. -/
theorem recvS_inj {t t' : T} (h : recvS t = recvS t') : t = t' := by rw [← tOf_recv t, h, tOf_recv]

/-- At the start the arrival of a transfer at `c` is owed by its partner alone. -/
theorem due_recv (t : T) (c d : Dev nD) : due d 0 (recvCell t c) () = if d = pt t c then N else 0 := by
  unfold due
  rw [show (∑ t' ∈ Finset.univ.filter (fun t : T => 0 ≤ ord t), tallyAt (recvCell t' (pt t' d)) () N) (recvCell t c) ()
      = ∑ t' ∈ Finset.univ.filter (fun t : T => 0 ≤ ord t), tallyAt (recvCell t' (pt t' d)) () N (recvCell t c) () from by
    simp only [Finset.sum_apply, Finsupp.finset_sum_apply]]
  have hother : ∀ t' ∈ Finset.univ.filter (fun t : T => 0 ≤ ord t), t' ≠ t → (tallyAt (recvCell t' (pt t' d)) () N : CellTallies nD τ sig Unit) (recvCell t c) () = 0 := by
    intro t' _ hne
    rw [tallyAt_apply, if_neg]
    rintro ⟨h, -⟩
    have h2 : (SemLoc.dma (recvS t) : SemLoc sig) = .dma (recvS t') := congrArg Prod.snd h
    injection h2 with h2
    exact hne (recvS_inj h2).symm
  rw [Finset.sum_eq_single_of_mem t (by simp) hother, tallyAt_apply]
  by_cases h : d = pt t c
  · subst h; rw [pt_pt, if_pos ⟨rfl, rfl⟩, if_pos rfl]
  · rw [if_neg (fun ⟨h1, _⟩ => h (by
      have h3 : c = pt t d := congrArg (fun g : GSem nD τ sig => g.1.1) h1
      rw [h3, pt_pt])), if_neg h]

/-- The transfers owe the barrier nothing. -/
theorem due_bar (c d : Dev nD) : due d 0 (barCell c) () = 0 := by
  by_contra hne
  obtain ⟨t, -, h⟩ := due_pos (Nat.pos_of_ne_zero hne)
  cases (congrArg Prod.snd h : (SemLoc.reg barS : SemLoc sig) = .dma (recvS t))

/-- A unit for the barrier of the neighbour counts at `c` when `c` is that neighbour. -/
theorem tally_bar (e : Fin 2) (c d : Dev nD) : (tallyAt (barCell (pd e d)) () 1 : CellTallies nD τ sig Unit) (barCell c) () = if d = pd e c then 1 else 0 := by
  rw [tallyAt_apply]
  by_cases h : d = pd e c
  · subst h; rw [pd_pd, if_pos ⟨rfl, rfl⟩, if_pos rfl]
  · rw [if_neg (fun ⟨h1, _⟩ => h (by
      have h3 : c = pd e d := congrArg (fun g : GSem nD τ sig => g.1.1) h1
      rw [h3, pd_pd])), if_neg h]

/-- A unit for a barrier counts nothing on a receive semaphore. -/
theorem tally_off (e : Fin 2) (t : T) (c d : Dev nD) : (tallyAt (barCell (pd e d)) () 1 : CellTallies nD τ sig Unit) (recvCell t c) () = 0 := by
  rw [tallyAt_ne_cell (fun h => by cases (congrArg Prod.snd h : (SemLoc.dma (recvS t) : SemLoc sig) = .reg barS)), Finsupp.zero_apply]

/-- The barrier of `c` is owed one unit by each neighbour. -/
theorem owed_bar (c d : Dev nD) : O₀ d (barCell c) () = (if d = pd 1 c then 1 else 0) + if d = pd 0 c then 1 else 0 := by
  unfold O₀
  rw [Pi.add_apply, Finsupp.add_apply, Pi.add_apply, Finsupp.add_apply, due_bar, tally_bar, tally_bar, Nat.zero_add]
/-- The arrival of a transfer at `c` is owed by its partner alone. -/
theorem owed_recv (t : T) (c d : Dev nD) : O₀ d (recvCell t c) () = if d = pt t c then N else 0 := by
  unfold O₀
  rw [Pi.add_apply, Finsupp.add_apply, Pi.add_apply, Finsupp.add_apply, due_recv, tally_off, tally_off, Nat.add_zero]

/-- The launch credits the barrier of `c` with two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (pd 1 c) fun _ => 1, Finset.sum_ite_eq' Finset.univ (pd 0 c) fun _ => 1, if_pos (Finset.mem_univ _), if_pos (Finset.mem_univ _)]
/-- The launch credits an arrival with one chunk. -/
theorem launch_recv (t : T) (c : Dev nD) :
    tallyOn (recvCell t c) (launchCredit (Pipeline.owing O₀) 0 (recvCell t c)) = (tallyAt (recvCell t c) () N : CellTallies nD τ sig Unit) := by
  unfold tallyAt; refine congrArg _ (Finsupp.ext fun u => ?_); cases u
  rw [Pipeline.launchCredit_owing, Finsupp.single_eq_same, Finset.sum_congr rfl fun d _ => owed_recv t c d,
    Finset.sum_ite_eq' Finset.univ (pt t c) fun _ => N, if_pos (Finset.mem_univ _)]

/-- The receive semaphore of each transfer. -/
def recvEmb : T ↪ SemLoc sig := ⟨fun t => .dma (recvS t), fun t t' h => by injection h with h; exact recvS_inj h⟩

/-- The launch credits a device is given: two barrier units, each transfer's arrival. -/
def credits (c : Dev nD) : sProp 𝕄 := iprop(cred (tallyAt (barCell c) () 2) ∗ bigSep Finset.univ fun t : T => cred (tallyAt (recvCell t c) () N))

/-- The launch gives every device its credits. -/
theorem credits_of (c : Dev nD) : (Pipeline.launchCred O₀ c : sProp 𝕄) ⊢ credits c := by
  unfold Pipeline.launchCred credits
  rw [bigSep_univ_at _ (SemLoc.reg barS), launch_bar]
  refine sep_mono_right (BI.Entails.trans (BI.bigSep_subset (t := Finset.univ.map recvEmb) fun s hs => ?_) ?_)
  · obtain ⟨t, -, rfl⟩ := Finset.mem_map.mp hs
    exact Finset.mem_erase.mpr ⟨fun h => (by cases h), Finset.mem_univ _⟩
  · rw [BI.bigSep_map]
    exact bigSep_mono fun t _ => Entails.of_eq (congrArg (fun x => (cred x : sProp 𝕄)) (launch_recv t c))

/-! ## The start of every device -/

/-- All of a resource on device 0. -/
def only (X : sProp (MT nD τ sig Unit (Elt F) ℕ UU ℕ)) (c : Dev nD) : sProp 𝕄 := if c = 0 then X else iprop(emp)
/-- Held by device 0 alone is held. -/
theorem bigSep_only (X : sProp 𝕄) : bigSep Finset.univ (only X) = X := by
  rw [bigSep_univ_at _ (0 : Dev nD), BI.bigSep_congr (s := Finset.univ.erase 0) (Ψ := fun _ => (BI.emp : sProp 𝕄))
      fun c hc => by unfold only; rw [if_neg (Finset.ne_of_mem_erase hc)]; rfl, BI.bigSep_emp_const]
  unfold only; rw [if_pos rfl]
  exact BI.equiv_iff.mp sep_emp

/-- The protocol's ghost state at the launch. -/
def seed : sProp 𝕄 := BI.own (ER (launchOf barCells scCells toks))
/-- Device 0 carries that state to the launch. -/
def seeds : Dev nD → sProp 𝕄 := only seed

/-- What every device may consult: the invariants, and that every barrier has reached its round. -/
def records (K : GSem nD τ sig → ℕ) : sProp 𝕄 := iprop(Inv (mine m) K ∗ bigSep barCells fun g => reached ER g 0)
/-- The records may be used any number of times. -/
instance records_persistent (K : GSem nD τ sig → ℕ) : BI.Persistent (records m K) := by unfold records; infer_instance

/-- The records say it of each barrier. -/
theorem reached_at (c : Dev nD) : (bigSep barCells fun g => (reached ER g 0 : sProp 𝕄)) ⊢ reached ER (barCell c) 0 :=
  bigSep_elim (Finset.mem_map_of_mem barEmb (Finset.mem_univ c))

/-- A device's rights to open the semaphores of its transfers. -/
def opens (c : Dev nD) : sProp 𝕄 := bigSep Finset.univ fun t : T => iprop(openTok ER (sendCell t c) ∗ openTok ER (recvCell t c))

/-- A device's rights, tokens and credits, sorted by transfer. -/
theorem raw_all (c : Dev nD) :
    iprop(opens c ∗ (bigSep Finset.univ fun t : T => iprop(dutyTok ER (sendCell t c) 0 0 ∗ dutyTok ER (recvCell t (pt t c)) 0 0))
      ∗ bigSep Finset.univ fun t : T => cred (tallyAt (recvCell t c) () N)) ⊢ (bigSep Finset.univ fun t : T => raw t c : sProp 𝕄) := by
  unfold opens
  refine BI.Entails.trans (sep_mono_right (Entails.of_eq (bigSep_sep' Finset.univ
    (fun t : T => (iprop(dutyTok ER (sendCell t c) 0 0 ∗ dutyTok ER (recvCell t (pt t c)) 0 0) : sProp 𝕄)) (fun t : T => cred (tallyAt (recvCell t c) () N))).symm)) ?_
  exact Entails.of_eq (bigSep_sep' Finset.univ (fun t : T => (iprop(openTok ER (sendCell t c) ∗ openTok ER (recvCell t c)) : sProp 𝕄)) _).symm

/-- The records and a device's holdings are what it brings to the call. -/
theorem given_intro (K : GSem nD τ sig → ℕ) (c : Dev nD) :
    iprop(records m K ∗ atPos ER (barCell c) 0 ∅ 0 ∗ opens c ∗ payToks c ∗ credits c) ⊢ given m c := by
  unfold records payToks credits given hold
  iintro ⟨⟨#HI, #HR⟩, Hat, Ho, ⟨⟨H0, H1⟩, Ht⟩, Hc, Hr⟩
  isplitr; · iexists K; iexact HI
  isplitl [Hat]; · iexact Hat
  isplitl [Hc]; · iexact Hc
  isplitl [H0]
  · isplitl [H0]; · iexact H0
    iapply (reached_at (F := F) (pd 0 c)); iexact HR
  isplitl [H1]
  · isplitl [H1]; · iexact H1
    iapply (reached_at (F := F) (pd 1 c)); iexact HR
  iapply (raw_all c)
  isplitl [Ho]; · iexact Ho
  isplitl [Ht] <;> iassumption

/-- A device's launch holdings outside the protocol. -/
def rest (c : Dev nD) : sProp 𝕄 :=
  iprop(StableHlo.held (c : Thread nD τ) (Pipeline.ucRefs τ sig) (V0 m c) ∗ credits c ∗ owes (c : Thread nD τ) (O₀ c) ∅ ∗ ∃ r, prngReg c r)

/-- What a device holds when the program starts. -/
abbrev first (c : Dev nD) : sProp 𝕄 := iprop(StableHlo.held (c : Thread nD τ) (Pipeline.ucRefs τ sig) (V0 m c) ∗ beside m 0 c)
/-- What a device holds when the program has ended. -/
abbrev last (c : Dev nD) : sProp 𝕄 := iprop(StableHlo.held (c : Thread nD τ) (Pipeline.ucRefs τ sig) (V2 m (outs m) c) ∗ semVal (barCell c) 0)

/-- The records and a device's launch holdings are what it starts with. -/
theorem first_intro (K : GSem nD τ sig → ℕ) (c : Dev nD) :
    iprop(records m K ∗ ((atPos ER (barCell c) 0 ∅ 0 ∗ opens c ∗ payToks c) ∗ rest m c)) ⊢ first m c := by
  unfold rest first beside
  iintro ⟨#HR, ⟨Hat, Ho, Ht⟩, Hh, Hc, HO, Hp⟩
  isplitl [Hh]; · iexact Hh
  isplitl [Hat Ho Ht Hc]
  · iapply (given_intro m K c)
    isplitr; · iexact HR
    isplitl [Hat]; · iexact Hat
    isplitl [Ho]; · iexact Ho
    isplitl [Ht] <;> iassumption
  isplitl [Hp]; · iexact Hp
  iexists ∅; iexact HO

/-- The one counter outside the call is the barrier. -/
theorem counter_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch provides on a device: the holdings outside the protocol, the barrier's counter, the seed. -/
theorem at_device (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ seeds c)
      ⊢ (iprop(rest m c ∗ (semVal (barCell c) 0 ∗ seeds c)) : sProp 𝕄) := by
  rw [show (unscopedBufs c (fun b => m ((c.tc : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c), counter_eq]
  unfold rest
  iintro ⟨Hh, Hus, HO, Hcr, Hp, HG⟩
  ihave Hc := (credits_of (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The counters of all devices are those of all barriers. -/
theorem counters_in : bigSep Finset.univ (fun c : Dev nD => (semVal (barCell c) 0 : sProp 𝕄)) ⊢ bigSep barCells (fun g => (semVal g 0 : sProp 𝕄)) :=
  Entails.of_eq (BI.bigSep_map (s := Finset.univ) barEmb (Φ := fun g : GSem nD τ sig => (semVal g 0 : sProp 𝕄))).symm
/-- The positions at all barriers, device by device. -/
theorem places_out : bigSep barCells (fun g => (atPos ER g 0 ∅ 0 : sProp 𝕄)) ⊢ bigSep Finset.univ (fun c : Dev nD => (atPos ER (barCell c) 0 ∅ 0 : sProp 𝕄)) :=
  Entails.of_eq (BI.bigSep_map (s := Finset.univ) barEmb (Φ := fun g : GSem nD τ sig => (atPos ER g 0 ∅ 0 : sProp 𝕄)))
/-- The rights to open the transfers' semaphores, device by device. -/
theorem opens_out : bigSep scCells (fun g => (openTok ER g : sProp 𝕄)) ⊢ bigSep Finset.univ (fun c : Dev nD => opens c) :=
  Entails.of_eq (by
    rw [BI.bigSep_map, BI.bigSep_univ_prod]
    exact BI.bigSep_congr fun c _ => over_own (F := F) fun s => openTok ER ((c : Thread nD τ), s))
/-- The duty tokens, dealt to the devices that pay. -/
theorem toks_out : bigSep toks (fun x => (dutyTok ER x.1 x.2.1 x.2.2 : sProp 𝕄)) ⊢ bigSep Finset.univ (fun c : Dev nD => payToks c) :=
  Entails.of_eq (toks_own.trans toks_around)

/-- Two families over the devices, side by side. -/
theorem pair_up (Φ Ψ : Dev nD → sProp 𝕄) : iprop(bigSep Finset.univ Φ ∗ bigSep Finset.univ Ψ) ⊢ bigSep Finset.univ fun c => iprop(Φ c ∗ Ψ c) :=
  Entails.of_eq (bigSep_sep' Finset.univ Φ Ψ).symm
/-- A family of pairs over the devices, taken apart. -/
theorem pair_down (Φ Ψ : Dev nD → sProp 𝕄) : (bigSep Finset.univ fun c => iprop(Φ c ∗ Ψ c)) ⊢ iprop(bigSep Finset.univ Φ ∗ bigSep Finset.univ Ψ) :=
  Entails.of_eq (bigSep_sep' Finset.univ Φ Ψ)

/-- The launch makes every device's first resources. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seeds c)) ∗ levAts L lv)
      ⊢ (|={Set.univ}=> bigSep Finset.univ (first m) : sProp 𝕄) := by
  iintro ⟨H, -⟩
  ihave H := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seeds c))
      ⊢ (bigSep Finset.univ fun c : Dev nD => iprop(rest m c ∗ (semVal (barCell c) 0 ∗ seeds c)) : sProp 𝕄) from bigSep_mono fun c _ => at_device m ρ c) $$ H
  ihave H := (pair_down (fun c : Dev nD => rest m c) (fun c => iprop(semVal (barCell c) 0 ∗ seeds c))) $$ H
  icases H with ⟨HB, H⟩
  ihave H := (pair_down (fun c : Dev nD => semVal (barCell c) 0) (fun c => seeds (F := F) c)) $$ H
  icases H with ⟨Hv, HG⟩
  ihave Hu := (show bigSep Finset.univ (fun c => seeds (F := F) c) ⊢ BI.own (ER (launchOf barCells scCells toks)) from
    Entails.of_eq (bigSep_only (F := F) seed)) $$ HG
  imod (Rounds.fund_launch ER (Rd (mine m)) disjoint_cells (fun g _ h => h) toks) $$ [Hv Hu] with ⟨%K, -, #Hinv, #Hr, Hat, Hopen, Htok⟩
  · isplitl [Hv]
    · iapply (counters_in (F := F)) $$ Hv
    · iexact Hu
  imodintro
  iapply (bigSep_with_persistent (S := (Finset.univ : Finset (Dev nD))) (R := records m K)
    (Φ := fun c : Dev nD => iprop((atPos ER (barCell c) 0 ∅ 0 ∗ opens c ∗ payToks c) ∗ rest m c)) (Ψ := fun c : Dev nD => first m c) fun c _ => first_intro m K c)
  isplitr
  · unfold records Inv
    isplitr; · iexact Hinv
    iexact Hr
  iapply (pair_up (fun c : Dev nD => iprop(atPos ER (barCell c) 0 ∅ 0 ∗ opens c ∗ payToks c)) (fun c => rest m c))
  isplitr [HB]
  · iapply (pair_up (fun c : Dev nD => atPos ER (barCell c) 0 ∅ 0) (fun c => iprop(opens c ∗ payToks c)))
    isplitl [Hat]; · iapply (places_out (F := F)) $$ Hat
    iapply (pair_up (fun c : Dev nD => opens (F := F) c) (fun c => payToks c))
    isplitl [Hopen]; · iapply (opens_out (F := F)) $$ Hopen
    iapply (toks_out (F := F)) $$ Htok
  · iexact HB

/-! ## The run -/

/-- The ghost state of the launch. -/
def u₀ : UU :=
  (initOf (Pipeline.cells (Pipeline.pin (pcfgs (F := F)) adm) cellOf_inj) (Pipeline.launchToks (Pipeline.pin (pcfgs (F := F)) adm) cellOf_inj),
    launchOf barCells scCells toks)

/-- The barrier is the only semaphore outside the call. -/
theorem unscoped_eq : ∀ sm : SemLoc sig, sm.isScoped .tc = false → sm = .reg barS := by decide

/-- A buffer that belongs to no call is one of the program's arrays. -/
theorem in_uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

set_option backward.isDefEq.respectTransparency.types false in
/-- The program on four devices, from any memory and all counters zero: it ends, every device's arguments are as before, its result holds the total
    of the four parts in the order in which the device adds them, and every counter is zero again. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v15) = total m c)
    ∧ r.2.sem = fun _ => 0) := by
  refine Pipeline.θ_run_regions_kit_dev_sems (pcfgs (F := F)) adm (dats m) () cellOf_inj EP defs₀ 𝒱₀ L lv m ρ main (segs m 𝒱₀ L lv (beside m) () (dats m) (call m))
    (fun c Q => by
      rewrite [main_chain c, Pipeline.Seg.run_eq_chain,
        show (segs m 𝒱₀ L lv (beside m) () (dats m) (call m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne seeds (u₀ (F := F)) ?_
    (T₀ := first m) (Tₙ := last m)
    (hch := fun c => ⟨.rfl, call_pre m c, (call_post m c).trans ?_⟩)
    (hinit := init m ρ)
    (QY := fun c s => (∀ b ∈ Pipeline.ucRefs τ sig, s.mem (c, b) = V2 m (outs m) c b) ∧ s.sem (barCell c) = 0)
    (hfin := fun c s' => ?_)
    (hQ := fun s h hs => ⟨fun c => ⟨⟨?_, ?_, ?_, ?_, ?_⟩, ?_⟩,
      sem_eq_zero hs fun c sm hsm => by
        obtain rfl := unscoped_eq sm hsm
        exact (h c).2⟩)
  · unfold u₀ seeds
    iintro Hu
    ihave H := (ownU_pair _ _) $$ Hu
    icases H with ⟨HP, HX⟩
    imodintro
    isplitl [HP]; · iexact HP
    iapply (Entails.of_eq (bigSep_only (F := F) seed).symm)
    unfold seed; iexact HX
  · show iprop(StableHlo.held (c : Thread nD τ) (Pipeline.ucRefs τ sig) (V2 m (outs m) c)
        ∗ (semVal (barCell c) 0 ∗ ∃ W, owes (c : Thread nD τ) (0 : CellTallies nD τ sig Unit) W))
      ⊢ iprop(last m c ∗ ∃ W, owes (c : Thread nD τ) (0 : CellTallies nD τ sig Unit) W)
    iintro ⟨Hh, Hb, HO⟩
    isplitr [HO]
    · isplitl [Hh] <;> iassumption
    · iexact HO
  · unfold last StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨h, by simpa using hb⟩
    · iexact HSI
  · exact ((h c).1 _ (in_uc main_arg0 (by decide))).trans (V2_main_arg0 m (outs m) c)
  · exact ((h c).1 _ (in_uc main_arg1 (by decide))).trans (V2_main_arg1 m (outs m) c)
  · exact ((h c).1 _ (in_uc main_arg2 (by decide))).trans (V2_main_arg2 m (outs m) c)
  · exact ((h c).1 _ (in_uc main_arg3 (by decide))).trans (V2_main_arg3 m (outs m) c)
  · exact ((h c).1 _ (in_uc main_arg4 (by decide))).trans (V2_main_arg4 m (outs m) c)
  · exact ((h c).1 _ (in_uc main_v15 (by decide))).trans (V2_out m c)

end Cert.KernelIdeal.Talk

end
-- ==== Proof.Frames.lean ====
/- The frames: every program ends with its arguments as they were and every counter at zero. -/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem

/-- The two prints of the kernel's body table are one. -/
theorem bodies_same : Cert.Kernel.defs₀ (F := Bits) = Cert.KernelIdeal.defs₀ (F := Bits) := by
  unfold Cert.Kernel.defs₀ Cert.KernelIdeal.defs₀
  refine congrArg Defs.onTc ?_
  funext l x
  match l with
  | 0 => rfl
/-- The kernel and its idealization have the same table of functions at machine floats. -/
theorem tables_same : Cert.Kernel.defs (F := Bits) = Cert.KernelIdeal.defs (F := Bits) := by
  unfold Cert.Kernel.defs Cert.KernelIdeal.defs
  exact congrArg (Pipeline.defs (Cert.KernelIdeal.pcfgs (F := Bits))) bodies_same

/-- The kernel at machine floats. -/
theorem frame_kernel : Cert.quiescent_Kernel := by
  intro m ρ _
  have h := (θ_run (Cert.KernelIdeal.defs (F := Bits)) (onTc (τ := Cert.KernelIdeal.τ) (Cert.KernelIdeal.main (F := Bits))) ⟨m, fun _ => 0, ρ⟩).mono
    (fun r h => (⟨fun c => (h.1 c).1, h.2⟩ : (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) (Cert.KernelIdeal.Talk.run_main (F := Bits) m ρ)
  rw [tables_same]
  exact h

/-- The kernel at idealized floats. -/
theorem frame_ideal : Cert.quiescent_KernelIdeal :=
  fun m ρ _ => (θ_run (Cert.KernelIdeal.defs (F := Ideal)) _ _).mono (fun _ h => ⟨fun c => (h.1 c).1, h.2⟩) (Cert.KernelIdeal.Talk.run_main (F := Ideal) m ρ)

/-- The reference, which has no semaphore, at idealized floats. -/
theorem frame_reference : Cert.quiescent_ReferenceIdeal :=
  fun m ρ _ => (θ_run (Cert.ReferenceIdeal.defs (F := Ideal)) _ _).mono (fun _ h => ⟨fun c => (h c).2, by
    funext ⟨t, s⟩
    cases s with
    | reg i => exact i.elim0
    | dma i => exact i.elim0⟩) (Cert.ReferenceIdeal.Value.run (F := Ideal) m ρ)

end Cert.Proof

end
-- ==== Proof.Softmax.lean ====
/- Attention over the extended reals: over real scores a softmax does not change when all scores are lowered alike. -/
module

public import Idealize.ShloMosaic.Lib.Pointwise

@[expose] public section

set_option maxRecDepth 16384

noncomputable section

namespace Cert.Attention

open Idealize.ShloMosaic

/-- An extended real that is finite. -/
def IsReal (x : EReal) : Prop := ∃ r : ℝ, x = (r : EReal)

/-- A value is real when it is neither of the infinities. -/
theorem real_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩
/-- The product of two real values is real. -/
theorem real_mul {x y : EReal} : IsReal x → IsReal y → IsReal (x * y) := by
  rintro ⟨r, rfl⟩ ⟨s, rfl⟩
  exact ⟨r * s, (EReal.coe_mul r s).symm⟩
/-- A finite sum of real numbers is the same among the extended reals. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]
/-- A finite sum of real values is real. -/
theorem real_sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- The factor of the scores. -/
abbrev eighth : EReal := Ideal.ofBits .f32 0x3E000000#32
/-- The scale 1/8 is real. -/
theorem real_eighth : IsReal eighth := ⟨1 / 8, by simp [Ideal.ofBits, Ideal.ieee, -EReal.coe_mul]; norm_num⟩

/-- The largest of finitely many finite numbers is finite. -/
theorem real_max {n : ℕ} {s : Fin (n + 1) → EReal} (h : ∀ j, IsReal (s j)) : IsReal (Finset.univ.fold max ⊥ s) := by
  refine real_iff.mpr ⟨?_, ?_⟩
  · refine ne_of_gt ((Finset.lt_fold_max _).mpr (Or.inr ⟨0, Finset.mem_univ _, ?_⟩))
    exact bot_lt_iff_ne_bot.mpr (real_iff.mp (h 0)).1
  · refine ne_of_lt ((Finset.fold_max_lt _).mpr ⟨bot_lt_top, fun j _ => ?_⟩)
    exact lt_top_iff_ne_top.mpr (real_iff.mp (h j)).2

/-- The weight of position `j` under the scores `s`. -/
def softmax {n : ℕ} (s : Fin n → EReal) (j : Fin n) : EReal := Ideal.div (Ideal.exp (s j)) (∑ x, Ideal.exp (s x))

/-- Lowering all scores by one real number changes no weight. -/
theorem softmax_lower {n : ℕ} {s : Fin n → EReal} {M : EReal} (hs : ∀ j, IsReal (s j)) (hM : IsReal M) (j : Fin n) :
    softmax (fun x => s x - M) j = softmax s j := by
  choose r hr using hs
  obtain ⟨t, rfl⟩ := hM
  obtain rfl : s = fun x => (r x : EReal) := funext hr
  have hpos : ∀ f : Fin n → ℝ, (∑ x, Real.exp (f x)) ≠ 0 := fun f =>
    ne_of_gt (Finset.sum_pos (fun x _ => Real.exp_pos _) ⟨j, Finset.mem_univ j⟩)
  have low : ∀ x, ((r x : EReal) - (t : EReal)) = ((r x - t : ℝ) : EReal) := fun x => (EReal.coe_sub _ _).symm
  unfold softmax
  simp only [low, Ideal.exp_coe, coe_sum]
  rw [Ideal.div_coe (hpos _), Ideal.div_coe (hpos _), ← EReal.coe_mul, ← EReal.coe_mul]
  congr 1
  simp only [Real.exp_sub, ← Finset.sum_div]
  have := hpos r
  have := Real.exp_ne_zero t
  field_simp

/-- One row of one head: the values weighted by the softmax of the scaled scores of the query `q` against the keys. -/
def attend (q : Fin 64 → EReal) (K V : Fin 128 → Fin 64 → EReal) (d : Fin 64) : EReal :=
  ∑ j, softmax (fun x => (∑ e, q e * K x e) * eighth) j * V j d

end Cert.Attention

end
-- ==== Proof.Attn.lean ====
/- The value of one device's contribution over the extended reals, element by element. -/
module

public import proofs.«01_k».proof.Proof.Compute
public import proofs.«01_k».proof.Proof.Softmax

@[expose] public section

set_option maxRecDepth 16384

noncomputable section

namespace Cert.KernelIdeal.Talk

open Idealize.ShloMosaic Idealize.ShloMosaic.TcCoe
open Cert.KernelIdeal Cert.KernelIdeal.Gen Cert.Attention

/-- An entry of the queries is a row of the activations times a column of the weights. -/
theorem queries_at (x : Vec Ideal S1x128x512 .f32) (w : Vec Ideal S512x256 .f32) (i : Fin 128) (n : Fin 256) :
    k0_pay1 (F := Ideal) x w (ix2 i n) = ∑ l : Fin 512, x (ix3 (0 : Fin 1) i l) * w (ix2 l n) := by
  pointwise [k0_pay1]

/-- An entry of one head is the sum of the values weighted by the softmax of the scaled scores of its row. -/
theorem weighted_at (q k : FVec Ideal S128x64 .f32) (v : Vec Ideal S1x128x1x64 .f32) (i : Fin 128) (d : Fin 64) :
    k0_pay17 (F := Ideal) q k v (ix2 i d) = ∑ j : Fin 128, softmax (fun x => (∑ e : Fin 64, q (ix2 i e) * k (ix2 x e)) * eighth) j * v (ix4 (0 : Fin 1) j (0 : Fin 1) d) := by
  unfold softmax
  pointwise [k0_pay17]

/-- An entry of the projection is a row of the context times a column of the output weights. -/
theorem project_at (x : Vec Ideal S128x256 .f32) (w : Vec Ideal S256x512 .f32) (i : Fin 128) (o : Fin 512) :
    k0_pay11 (F := Ideal) x w (ix3 (0 : Fin 1) i o) = ∑ n : Fin 256, x (ix2 i n) * w (ix2 n o) := by
  pointwise [k0_pay11, k0_pay10]

/-- One row of what head `h` of a device stores. -/
theorem head_at (h : Fin 4) (q : FVec Ideal S128x256 .f32) (kk vv : Vec Ideal S1x128x1x64 .f32) (i : Fin 128) (d : Fin 64) :
    headV (F := Ideal) h q kk vv (ix2 i d)
      = attend (fun e => q (ix2 i (⟨64 * h.val + e.val, by omega⟩ : Fin 256))) (fun x e => kk (ix4 (0 : Fin 1) x (0 : Fin 1) e)) (fun x e => vv (ix4 (0 : Fin 1) x (0 : Fin 1) e)) d := by
  have hq : ∀ e : Fin 64, extractStridedSlice S128x64 ![0, 64 * h.val] q (slices_col h) (ix2 i e) = q (ix2 i (⟨64 * h.val + e.val, by omega⟩ : Fin 256)) := fun e => by
    fin_cases h <;> pointwise
  have hk : ∀ (x : Fin 128) (e : Fin 64), k0_pay16 (F := Ideal) kk (ix2 x e) = kk (ix4 (0 : Fin 1) x (0 : Fin 1) e) := fun x e => by
    pointwise [k0_pay16]
  unfold headV attend
  rw [weighted_at]
  simp only [hq, hk]

/-- An index within plane `b` is that index of the array at batch entry `b`. -/
theorem plane_emb (b : Fin 2) (i : Fin 128) (l : Fin 512) : (plR b).emb (ix3 (0 : Fin 1) i l) = ix3 b i l := by
  funext a
  refine Fin.ext ?_
  fin_cases a
  · show b.val + 1 * 0 = b.val; omega
  · show 0 + 1 * i.val = i.val; omega
  · show 0 + 1 * l.val = l.val; omega
/-- An index within head `h` of batch entry `b` is that index of the array at `b` and `h`. -/
theorem head_emb (b : Fin 2) (h : Fin 4) (x : Fin 128) (e : Fin 64) : (hdR b h).emb (ix4 (0 : Fin 1) x (0 : Fin 1) e) = ix4 b x h e := by
  funext a
  refine Fin.ext ?_
  fin_cases a
  · show b.val + 1 * 0 = b.val; omega
  · show 0 + 1 * x.val = x.val; omega
  · show h.val + 1 * 0 = h.val; omega
  · show 0 + 1 * e.val = e.val; omega

variable (X : FVec Ideal S2x128x512 .f32) (Wq : FVec Ideal S512x256 .f32) (Kb Vb : FVec Ideal S2x128x4x64 .f32) (Wo : FVec Ideal S256x512 .f32)

/-- A device's four heads side by side. -/
theorem ctx_at (b : Fin 2) (i : Fin 128) (n : Fin 256) :
    ctxOf (F := Ideal) X Wq Kb Vb b (ix2 i n)
      = attend (fun e => ∑ l : Fin 512, X (ix3 b i l) * Wq (ix2 l (⟨64 * (n.val / 64) + e.val, by omega⟩ : Fin 256)))
          (fun x e => Kb (ix4 b x (⟨n.val / 64, by omega⟩ : Fin 4) e)) (fun x e => Vb (ix4 b x (⟨n.val / 64, by omega⟩ : Fin 4) e)) ⟨n.val % 64, by omega⟩ := by
  show headV (F := Ideal) (⟨n.val / 64, _⟩ : Fin 4) _ _ _ (ix2 i (⟨n.val % 64, _⟩ : Fin 64)) = _
  rw [head_at]
  simp only [queries_at, plane_emb, head_emb]
  rfl

/-- A device's summand of the result. -/
theorem part_at (b : Fin 2) (i : Fin 128) (o : Fin 512) :
    part (F := Ideal) X Wq Kb Vb Wo (ix3 b i o)
      = ∑ n : Fin 256, attend (fun e => ∑ l : Fin 512, X (ix3 b i l) * Wq (ix2 l (⟨64 * (n.val / 64) + e.val, by omega⟩ : Fin 256)))
          (fun x e => Kb (ix4 b x (⟨n.val / 64, by omega⟩ : Fin 4) e)) (fun x e => Vb (ix4 b x (⟨n.val / 64, by omega⟩ : Fin 4) e)) ⟨n.val % 64, by omega⟩ * Wo (ix2 n o) := by
  show k0_pay11 (F := Ideal) (ctxOf X Wq Kb Vb (plane (ix3 b i o))) Wo (ix3 (0 : Fin 1) i o) = _
  rw [project_at, show plane (ix3 b i o) = b from rfl]
  exact Finset.sum_congr rfl fun n _ => congrArg (· * Wo (ix2 n o)) (ctx_at X Wq Kb Vb b i n)

end Cert.KernelIdeal.Talk

end
-- ==== Proof.Slices.lean ====
/- The keys and values a device takes: its four heads of the sixteen. -/
module

public import proofs.«01_k».proof.Proof.Attn
public import proofs.«01_k».proof.Proof.Gen.KernelIdeal.Regions
public import Idealize.ShloMosaic.Lib.StableHlo.Run

@[expose] public section

set_option maxRecDepth 16384

noncomputable section

namespace Cert.KernelIdeal.Talk

open Idealize.ShloMosaic Idealize.ShloMosaic.TcCoe Idealize.ShloMosaic.StableHlo
open Cert.KernelIdeal Cert.KernelIdeal.Gen

variable (m : (ℓ : Loc nD τ sig) → Buf (Elt Ideal) ℓ)

/-- The first of device `c`'s heads, as the program computes it. -/
def firstHead (c : Dev nD) : IVec S_ 32 :=
  select (cmpi .slt (muli (Host.remui (Host.divui (constantI S_ 32 (Dev.word c)) (constantI S_ 32 1#32)) (constantI S_ 32 4#32)) (constantI S_ 32 4#32)) (constantI S_ 32 0#32))
    (addi (muli (Host.remui (Host.divui (constantI S_ 32 (Dev.word c)) (constantI S_ 32 1#32)) (constantI S_ 32 4#32)) (constantI S_ 32 4#32)) (constantI S_ 32 16#32))
    (muli (Host.remui (Host.divui (constantI S_ 32 (Dev.word c)) (constantI S_ 32 1#32)) (constantI S_ 32 4#32)) (constantI S_ 32 4#32))

/-- The four heads of an array from the head `w` on. -/
def fourHeads (w : IVec S_ 32) (x : FVec Ideal S2x128x16x64 .f32) : FVec Ideal S2x128x4x64 .f32 :=
  Host.dynamicSlice S2x128x4x64 x (fun k => ((![constantI S_ 32 0#32, constantI S_ 32 0#32, w, constantI S_ 32 0#32] : Fin 4 → IVec S_ 32) k (Shape.Idx.first h_S_)).toInt) sliceFits_S2x128x16x64_S2x128x4x64

/-- The keys of device `c`'s heads, -/
theorem keys_slice (c : Dev nD) : V1 m c main_v9 = fourHeads (firstHead c) (V0 m c main_arg2) := by
  unfold V1 hostOps0
  after_results_simp
  refine congrArg (fun f : Fin 4 → ℤ => Host.dynamicSlice S2x128x4x64 (V0 m c main_arg2) f sliceFits_S2x128x16x64_S2x128x4x64) (funext fun k => ?_)
  fin_cases k
  all_goals dsimp only [Fin.zero_eta, Fin.mk_one, Fin.reduceFinMk, Matrix.cons_val, Matrix.cons_val_zero, Matrix.cons_val_one]
  all_goals after_results_simp
  all_goals rfl

/-- and their values. -/
theorem values_slice (c : Dev nD) : V1 m c main_v14 = fourHeads (firstHead c) (V0 m c main_arg3) := by
  unfold V1 hostOps0
  after_results_simp
  refine congrArg (fun f : Fin 4 → ℤ => Host.dynamicSlice S2x128x4x64 (V0 m c main_arg3) f sliceFits_S2x128x16x64_S2x128x4x64) (funext fun k => ?_)
  fin_cases k
  all_goals dsimp only [Fin.zero_eta, Fin.mk_one, Fin.reduceFinMk, Matrix.cons_val, Matrix.cons_val_zero, Matrix.cons_val_one]
  all_goals after_results_simp
  all_goals rfl

/-- The first head of device `c` is number `4c`. -/
theorem firstHead_toInt : ∀ c : Dev nD, (firstHead c (Shape.Idx.first h_S_)).toInt = 4 * (c.val : ℤ) := by
  decide +kernel

/-- Head `h` of the four cut out for device `c` is head `4c + h` of the array. -/
theorem fourHeads_at (c : Dev nD) (x : FVec Ideal S2x128x16x64 .f32) (b : Fin 2) (i : Fin 128) (h : Fin 4) (d : Fin 64) :
    fourHeads (firstHead c) x (ix4 b i h d) = x (ix4 b i (⟨4 * c.val + h.val, by have : c.val < 4 := c.isLt; omega⟩ : Fin 16) d) := by
  have hc : c.val < 4 := c.isLt
  unfold fourHeads
  pointwise
  refine congrArg x ?_
  congr 1 <;> refine Fin.ext ?_
  · exact congrArg (· + b.val) (Host.clampedStart_of_le _ _ _ 0 rfl (by decide)) |>.trans (Nat.zero_add _)
  · exact congrArg (· + i.val) (Host.clampedStart_of_le _ _ _ 0 rfl (by decide)) |>.trans (Nat.zero_add _)
  · refine congrArg (· + h.val) (Host.clampedStart_of_le _ _ _ (4 * c.val) ?_ ?_)
    · exact (firstHead_toInt c).trans (by push_cast; rfl)
    · show 4 * c.val + 4 ≤ 16
      omega
  · exact congrArg (· + d.val) (Host.clampedStart_of_le _ _ _ 0 rfl (by decide)) |>.trans (Nat.zero_add _)

end Cert.KernelIdeal.Talk

end
-- ==== Proof.Ref.lean ====
/- The value of the reference over the extended reals, element by element. -/
module

public import proofs.«01_k».proof.Proof.Gen.ReferenceIdeal.Run
public import proofs.«01_k».proof.Proof.Softmax

@[expose] public section

set_option maxRecDepth 16384

noncomputable section

namespace Cert.ReferenceIdeal.Value

open Idealize.ShloMosaic Idealize.ShloMosaic.TcCoe
open Cert.ReferenceIdeal Cert.ReferenceIdeal.Gen Cert.Attention

/-! ## The stages of the reference -/

/-- The pairs of positions the reference lets attend to each other. -/
def mask : IVec S128x128 1 :=
  ori (cmpi .sle (absi (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
      (broadcastInDim S128x128 ![] bcast_S_S128x128 (constantI S_ 32 128#32)))
    (ori (broadcastInDim S128x128 ![0, 1] bcast_S1x128_S128x128_0_1 (cmpi .slt (broadcastInDim S1x128 ![1] bcast_S128_S1x128_1 (iotaInDim S128 32 0)) (broadcastInDim S1x128 ![] bcast_S_S1x128 (constantI S_ 32 32#32))))
      (broadcastInDim S128x128 ![0, 1] bcast_S128x1_S128x128_0_1 (cmpi .slt (broadcastInDim S128x1 ![0] bcast_S128_S128x1_0 (iotaInDim S128 32 0)) (broadcastInDim S128x1 ![] bcast_S_S128x1 (constantI S_ 32 32#32)))))

/-- The rows with at least one such pair. -/
def rows : IVec S128 1 := Host.reduce IntOp.ori mask (constantI S_ 1 0#1) reducesTo_S128x128_S128_d1 h_S_

variable (X : FVec Ideal S2x128x512 .f32) (W : FVec Ideal S512x1024 .f32) (K V : FVec Ideal S2x128x16x64 .f32) (O : FVec Ideal S1024x512 .f32)

/-- The scaled scores, -/
def scaled : FVec Ideal S2x16x128x128 .f32 :=
  mulf (Host.dotGeneral dot_S2x128x16x64_S2x128x16x64_S2x16x128x128_3_3_1_1_02_02 none (shapeCast S2x128x16x64 (Host.dotGeneral dot_S2x128x512_S512x1024_S2x128x1024_2_0_01_1_n_n none X W) shapeCasts_S2x128x1024_S2x128x16x64) K)
    (broadcastInDim S2x16x128x128 ![] bcast_S_S2x16x128x128 (constant (F := Ideal) S_ .f32 0x3E000000#32))
/-- masked, -/
def masked (s : FVec Ideal S2x16x128x128 .f32) : FVec Ideal S2x16x128x128 .f32 :=
  select (broadcastInDim S2x16x128x128 ![0, 1, 2, 3] bcast_S1x1x128x128_S2x16x128x128_0_1_2_3 (broadcastInDim S1x1x128x128 ![2, 3] bcast_S128x128_S1x1x128x128_2_3 mask))
    s (broadcastInDim S2x16x128x128 ![] bcast_S_S2x16x128x128 (id (constant (F := Ideal) S_ .f32 0xCE6E6B28#32)))
/-- less the largest of their row, their exponentials, -/
def shifted (s : FVec Ideal S2x16x128x128 .f32) : FVec Ideal S2x16x128x128 .f32 :=
  Host.exp (subf s (broadcastInDim S2x16x128x128 ![0, 1, 2, 3] bcast_S2x16x128x1_S2x16x128x128_0_1_2_3 (broadcastInDim S2x16x128x1 ![0, 1, 2] bcast_S2x16x128_S2x16x128x1_0_1_2
    (Host.reduce FloatOps.maximumf s (constant (F := Ideal) S_ .f32 0xFF800000#32) reducesTo_S2x16x128x128_S2x16x128_d3 h_S_))))
/-- and these divided by the sum of their row. -/
def weights (e : FVec Ideal S2x16x128x128 .f32) : FVec Ideal S2x16x128x128 .f32 :=
  select (broadcastInDim S2x16x128x128 ![0, 1, 2, 3] bcast_S1x1x128x1_S2x16x128x128_0_1_2_3 (broadcastInDim S1x1x128x1 ![2] bcast_S128_S1x1x128x1_2 rows))
    (Host.divf e (broadcastInDim S2x16x128x128 ![0, 1, 2, 3] bcast_S2x16x128x1_S2x16x128x128_0_1_2_3
      (select (broadcastInDim S2x16x128x1 ![0, 1, 2, 3] bcast_S1x1x128x1_S2x16x128x1_0_1_2_3 (broadcastInDim S1x1x128x1 ![2] bcast_S128_S1x1x128x1_2 rows))
        (broadcastInDim S2x16x128x1 ![0, 1, 2] bcast_S2x16x128_S2x16x128x1_0_1_2 (Host.reduceAdd e (constant (F := Ideal) S_ .f32 0x00000000#32) reducesTo_S2x16x128x128_S2x16x128_d3 h_S_))
        (broadcastInDim S2x16x128x1 ![] bcast_S_S2x16x128x1 (id (constant (F := Ideal) S_ .f32 0x3F800000#32))))))
    (broadcastInDim S2x16x128x128 ![] bcast_S_S2x16x128x128 (id (constant (F := Ideal) S_ .f32 0x00000000#32)))
/-- The heads' outputs, projected. -/
def projected (w : FVec Ideal S2x16x128x128 .f32) : FVec Ideal S2x128x512 .f32 :=
  Host.dotGeneral dot_S2x128x1024_S1024x512_S2x128x512_2_0_01_1_n_n none
    (shapeCast S2x128x1024 (transpose S2x128x16x64 [0, 3, 1, 2] (Host.dotGeneral dot_S2x128x16x64_S2x16x128x128_S2x16x64x128_1_3_3_2_02_01 none V w)) shapeCasts_S2x128x16x64_S2x128x1024) O

variable (m : (ℓ : Loc nD τ sig) → Buf (Elt Ideal) ℓ)

/-- The result of the reference is its stages one after the other. -/
theorem res_stages : res_main_v42 m 0 = projected (m (((0 : Dev nD).tc : Thread nD τ).loc main_arg3)) (m (((0 : Dev nD).tc : Thread nD τ).loc main_arg4))
    (weights (shifted (masked (scaled (m (((0 : Dev nD).tc : Thread nD τ).loc main_arg0)) (m (((0 : Dev nD).tc : Thread nD τ).loc main_arg1)) (m (((0 : Dev nD).tc : Thread nD τ).loc main_arg2)))))) := rfl

/-! ## The stages, element by element -/

/-- The mask lets every pair of positions through: no two of them are more than 128 apart. -/
theorem band : ∀ i j : Fin 128, IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32)) = 1#1 := by
  decide +kernel

/-- Every pair of positions is let through: they are fewer than 128 apart. -/
theorem mask_one : mask = fun _ => 1#1 := by
  funext j
  idx_vars j
  unfold mask
  pointwise
  exact band j0 j1

/-- Every row has such a pair. -/
theorem rows_one : rows = fun _ => 1#1 := by
  unfold rows
  rw [mask_one]
  funext j
  idx_vars j
  pointwise
  decide +kernel

/-- An entry of the scaled scores is a query times a key, divided by eight. -/
theorem scaled_at (b : Fin 2) (h : Fin 16) (i j : Fin 128) :
    scaled X W K (ix4 b h i j) = (∑ d : Fin 64, (∑ l : Fin 512, X (ix3 b i l) * W (ix2 l ⟨h.val * 64 + d.val, by omega⟩)) * K (ix4 b j h d)) * eighth := by
  unfold scaled
  pointwise

/-- The mask changes no score. -/
theorem masked_eq (s : FVec Ideal S2x16x128x128 .f32) : masked s = s := by
  funext j
  idx_vars j
  unfold masked
  rw [mask_one]
  pointwise

/-- An entry after the shift is the exponential of its score less the greatest score of its row. -/
theorem shifted_at (s : FVec Ideal S2x16x128x128 .f32) (b : Fin 2) (h : Fin 16) (i j : Fin 128) :
    shifted s (ix4 b h i j) = Ideal.exp (s (ix4 b h i j) - Finset.univ.fold max ⊥ fun x => s (ix4 b h i x)) := by
  have low : Ideal.ofBits .f32 0xFF800000#32 = ⊥ := by simp [Ideal.ofBits, Ideal.ieee]
  unfold shifted
  pointwise
  rw [low]

/-- A weight is its exponential divided by the sum of its row. -/
theorem weights_at (e : FVec Ideal S2x16x128x128 .f32) (b : Fin 2) (h : Fin 16) (i j : Fin 128) :
    weights e (ix4 b h i j) = Ideal.div (e (ix4 b h i j)) (∑ x, e (ix4 b h i x)) := by
  unfold weights
  rw [rows_one]
  pointwise

/-- An entry of the result sums, over all heads and their columns, the weighted values times the output weights. -/
theorem projected_at (w : FVec Ideal S2x16x128x128 .f32) (b : Fin 2) (i : Fin 128) (o : Fin 512) :
    projected V O w (ix3 b i o) = ∑ n : Fin 1024, (∑ j : Fin 128, V (ix4 b j ⟨n.val / 64, by omega⟩ ⟨n.val % 64, by omega⟩) * w (ix4 b ⟨n.val / 64, by omega⟩ i j)) * O (ix2 n o) := by
  unfold projected
  pointwise

/-- Over real scores the masked, lowered and normalized exponentials are the softmax of the scores. -/
theorem weights_softmax (s : FVec Ideal S2x16x128x128 .f32) (hs : ∀ b h i j, IsReal (s (ix4 b h i j))) (b : Fin 2) (h : Fin 16) (i j : Fin 128) :
    weights (shifted (masked s)) (ix4 b h i j) = softmax (fun x => s (ix4 b h i x)) j := by
  rw [masked_eq, weights_at]
  simp only [shifted_at]
  exact softmax_lower (s := fun x => s (ix4 b h i x)) (fun x => hs b h i x) (real_max fun x => hs b h i x) j

/-- The reference's result over real scores. -/
theorem stages_at (hs : ∀ b h i j, IsReal (scaled X W K (ix4 b h i j))) (b : Fin 2) (i : Fin 128) (o : Fin 512) :
    projected V O (weights (shifted (masked (scaled X W K)))) (ix3 b i o)
      = ∑ n : Fin 1024, attend (fun e => ∑ l : Fin 512, X (ix3 b i l) * W (ix2 l (⟨n.val / 64 * 64 + e.val, by omega⟩ : Fin 1024)))
          (fun x e => K (ix4 b x (⟨n.val / 64, by omega⟩ : Fin 16) e)) (fun x e => V (ix4 b x (⟨n.val / 64, by omega⟩ : Fin 16) e)) ⟨n.val % 64, by omega⟩ * O (ix2 n o) := by
  rw [projected_at]
  refine Finset.sum_congr rfl fun n _ => congrArg (· * O (ix2 n o)) (Finset.sum_congr rfl fun j _ => ?_)
  rw [weights_softmax _ hs, mul_comm]
  simp only [scaled_at]

/-- Scores of finite arrays are real. -/
theorem scaled_real (hX : ∀ i, IsReal (X i)) (hW : ∀ i, IsReal (W i)) (hK : ∀ i, IsReal (K i)) (b : Fin 2) (h : Fin 16) (i j : Fin 128) :
    IsReal (scaled X W K (ix4 b h i j)) := by
  rw [scaled_at]
  exact real_mul (real_sum fun d => real_mul (real_sum fun l => real_mul (hX _) (hW _)) (hK _)) real_eighth

end Cert.ReferenceIdeal.Value

end
-- ==== Proof.Equation.lean ====
/- The sum of the devices' contributions is the reference's result. -/
module

public import proofs.«01_k».proof.Proof.Run
public import proofs.«01_k».proof.Proof.Slices
public import proofs.«01_k».proof.Proof.Ref
public import Idealize.ShloMosaic.Lib.Layout
public import proofs.«01_k».proof.Defs

@[expose] public section

set_option maxRecDepth 16384

noncomputable section

namespace Cert.KernelIdeal.Talk

open Idealize.ShloMosaic Idealize.ShloMosaic.TcCoe
open Cert.KernelIdeal Cert.KernelIdeal.Gen Cert.Attention

/-- After both phases every device holds the sum over all four. -/
theorem acc_sum (P : Dev nD → S2x128x512.Idx → Elt Ideal .f32) (c : Dev nD) (i : S2x128x512.Idx) :
    (acc (F := Ideal) P 2 c i : EReal) = ∑ s : Fin 4, (P s i : EReal) := by
  have step : ∀ n c, (acc (F := Ideal) P (n + 1) c i : EReal) = (acc (F := Ideal) P n c i : EReal) + (acc (F := Ideal) P n (pd (plane i + Fin.ofNat 2 n) c) i : EReal) := fun _ _ => rfl
  have zero : ∀ c, acc (F := Ideal) P 0 c i = P c i := fun _ => rfl
  have two : ∀ b : Fin 2, ∀ c : Dev nD, ([c, pd (b + Fin.ofNat 2 0) c, pd (b + Fin.ofNat 2 1) c, pd (b + Fin.ofNat 2 0) (pd (b + Fin.ofNat 2 1) c)] : List (Dev nD)).Perm [0, 1, 2, 3] := by decide
  have h := ((two (plane i) c).map fun s => (P s i : EReal)).sum_eq
  simp only [List.map_cons, List.map_nil, List.sum_cons, List.sum_nil, add_zero] at h
  rw [step, step, step]
  simp only [zero]
  rw [Fin.sum_univ_four, add_assoc, h]
  simp only [add_assoc]

/-- A sum over all 1024 columns, device by device. -/
theorem sum_devices (f : Fin 1024 → EReal) : ∑ n, f n = ∑ s : Fin 4, ∑ n : Fin 256, f ⟨256 * s.val + n.val, by omega⟩ := by
  rw [← Fintype.sum_prod_type']
  refine (Equiv.sum_comp (finProdFinEquiv (m := 4) (n := 256)) f).symm.trans (Finset.sum_congr rfl fun x _ => congrArg f (Fin.ext ?_))
  exact Nat.add_comm _ _

/-- The query weights a device holds are 256 of the columns, -/
theorem block_cols (W : FVec Ideal ⟨2, ![512, 1024]⟩ .f32) (c : Fin 4) (l : Fin 512) (k : Fin 256) :
    Layout.block ⟨2, ![512, 256]⟩ ⟨2, ![512, 1024]⟩ 1 4 c W (by decide) (ix2 l k) = W (ix2 l (⟨256 * c.val + k.val, by omega⟩ : Fin 1024)) := by
  rw [Layout.block_apply]
  refine congrArg W (funext fun a => Fin.ext ?_)
  rw [Layout.Tiles.idx_val]
  fin_cases a
  · rfl
  · show c.val * 256 + k.val = 256 * c.val + k.val
    omega
/-- and its output weights the same rows. -/
theorem block_rows (O : FVec Ideal ⟨2, ![1024, 512]⟩ .f32) (c : Fin 4) (k : Fin 256) (l : Fin 512) :
    Layout.block ⟨2, ![256, 512]⟩ ⟨2, ![1024, 512]⟩ 0 4 c O (by decide) (ix2 k l) = O (ix2 (⟨256 * c.val + k.val, by omega⟩ : Fin 1024) l) := by
  rw [Layout.block_apply]
  refine congrArg O (funext fun a => Fin.ext ?_)
  rw [Layout.Tiles.idx_val]
  fin_cases a
  · show c.val * 256 + k.val = 256 * c.val + k.val
    omega
  · rfl

section Whole

variable (X : FVec Ideal S2x128x512 .f32) (W : FVec Ideal ⟨2, ![512, 1024]⟩ .f32) (K V : FVec Ideal S2x128x16x64 .f32) (O : FVec Ideal ⟨2, ![1024, 512]⟩ .f32)

/-- The term of column `n` in the reference's result. -/
def column (b : Fin 2) (i : Fin 128) (o : Fin 512) (n : Fin 1024) : EReal :=
  attend (fun e => ∑ l : Fin 512, X (ix3 b i l) * W (ix2 l (⟨n.val / 64 * 64 + e.val, by omega⟩ : Fin 1024)))
    (fun x e => K (ix4 b x (⟨n.val / 64, by omega⟩ : Fin 16) e)) (fun x e => V (ix4 b x (⟨n.val / 64, by omega⟩ : Fin 16) e)) ⟨n.val % 64, by omega⟩ * O (ix2 n o)

/-- A device's summand from its blocks is the sum over its columns. -/
theorem part_columns (c : Fin 4) (b : Fin 2) (i : Fin 128) (o : Fin 512) :
    part (F := Ideal) X (Layout.block ⟨2, ![512, 256]⟩ ⟨2, ![512, 1024]⟩ 1 4 c W) (fourHeads (firstHead c) K) (fourHeads (firstHead c) V) (Layout.block ⟨2, ![256, 512]⟩ ⟨2, ![1024, 512]⟩ 0 4 c O) (ix3 b i o)
      = ∑ n : Fin 256, column X W K V O b i o ⟨256 * c.val + n.val, by omega⟩ := by
  rw [part_at]
  refine Finset.sum_congr rfl fun n _ => ?_
  have h1 : ∀ e : Fin 64, (⟨256 * c.val + (64 * (n.val / 64) + e.val), by omega⟩ : Fin 1024) = ⟨(256 * c.val + n.val) / 64 * 64 + e.val, by omega⟩ := fun e => Fin.ext (by show 256 * c.val + (64 * (n.val / 64) + e.val) = (256 * c.val + n.val) / 64 * 64 + e.val; omega)
  have h2 : (⟨4 * c.val + n.val / 64, by omega⟩ : Fin 16) = ⟨(256 * c.val + n.val) / 64, by omega⟩ := Fin.ext (by show 4 * c.val + n.val / 64 = (256 * c.val + n.val) / 64; omega)
  have h3 : (⟨n.val % 64, by omega⟩ : Fin 64) = ⟨(256 * c.val + n.val) % 64, by omega⟩ := Fin.ext (by show n.val % 64 = (256 * c.val + n.val) % 64; omega)
  unfold column
  simp only [block_cols, block_rows, fourHeads_at, h1, h2, h3]

/-- The reference's result over real scores is the sum over all columns. -/
theorem stages_columns (hX : ∀ i, IsReal (X i)) (hW : ∀ i, IsReal (W i)) (hK : ∀ i, IsReal (K i)) (b : Fin 2) (i : Fin 128) (o : Fin 512) :
    Cert.ReferenceIdeal.Value.projected V O (Cert.ReferenceIdeal.Value.weights (Cert.ReferenceIdeal.Value.shifted (Cert.ReferenceIdeal.Value.masked (Cert.ReferenceIdeal.Value.scaled X W K)))) (ix3 b i o)
      = ∑ n, column X W K V O b i o n :=
  Cert.ReferenceIdeal.Value.stages_at X W K V O (Cert.ReferenceIdeal.Value.scaled_real X W K hX hW hK) b i o

end Whole

/-! ## The precondition -/

/-- What is below the largest number in absolute value is finite. -/
theorem real_of_lt {x : EReal} (h : BitVec.ofBool (decide (max x (-x) < Ideal.ofBits .f32 0x7F800000#32)) = 1#1) : IsReal x := by
  have top : Ideal.ofBits .f32 0x7F800000#32 = ⊤ := by simp [Ideal.ofBits, Ideal.ieee]
  rw [top] at h
  have hlt : max x (-x) < ⊤ := by
    by_contra hn
    rw [decide_eq_false hn] at h
    exact absurd h (by decide)
  obtain ⟨h1, h2⟩ := max_lt_iff.mp hlt
  refine real_iff.mpr ⟨fun hb => ?_, ne_of_lt h1⟩
  rw [hb, EReal.neg_bot] at h2
  exact lt_irrefl _ h2

/-- The facts that the kernel's precondition is read with. -/
instance : Cert.Pre_finite_scores_KernelIdeal.Facts := ⟨by decide, by decide, by decide⟩

variable (m : (ℓ : Loc nD τ sig) → Buf (Elt Ideal) ℓ)

/-- Under the precondition the inputs, the query weights and the keys are finite. -/
theorem pre_real (h : Cert.Pre_KernelIdeal_finite_scores_KernelIdeal m) (c : Dev nD) :
    (∀ i : S2x128x512.Idx, IsReal (m (c.tc.loc main_arg0) i)) ∧ (∀ i : S512x256.Idx, IsReal (m (c.tc.loc main_arg1) i)) ∧ (∀ i : S2x128x16x64.Idx, IsReal (m (c.tc.loc main_arg2) i)) := by
  obtain ⟨h0, h1, h2⟩ := h c
  exact ⟨fun i => real_of_lt (congrFun h0 i), fun i => real_of_lt (congrFun h1 i), fun i => real_of_lt (congrFun h2 i)⟩

/-! ## The whole result -/

/-- Every column of the query weights lies in one device's block. -/
theorem real_of_blocks (W : FVec Ideal ⟨2, ![512, 1024]⟩ .f32) (h : ∀ (c : Fin 4) (i : S512x256.Idx), IsReal (Layout.block ⟨2, ![512, 256]⟩ ⟨2, ![512, 1024]⟩ 1 4 c W (by decide) i)) (j : (⟨2, ![512, 1024]⟩ : Shape).Idx) : IsReal (W j) := by
  idx_vars j
  have e := h ⟨j1.val / 256, by omega⟩ (ix2 j0 (⟨j1.val % 256, by omega⟩ : Fin 256))
  rw [block_cols] at e
  have hj : (⟨256 * (j1.val / 256) + j1.val % 256, by omega⟩ : Fin 1024) = j1 := Fin.ext (by show 256 * (j1.val / 256) + j1.val % 256 = j1.val; omega)
  exact hj ▸ e

/-- The four devices' total is the reference's result on the whole arrays. -/
theorem total_eq (m' : (ℓ : Loc Cert.ReferenceIdeal.nD Cert.ReferenceIdeal.τ Cert.ReferenceIdeal.sig) → Buf (Elt Ideal) ℓ) (hpre : Cert.Pre_KernelIdeal_finite_scores_KernelIdeal m)
    (hm : ∀ c : Dev nD, m (c.tc.loc main_arg0) = m' ((0 : Dev Cert.ReferenceIdeal.nD).tc.loc Cert.ReferenceIdeal.main_arg0)
      ∧ m (c.tc.loc main_arg1) = Layout.block ⟨2, ![512, 256]⟩ ⟨2, ![512, 1024]⟩ 1 4 c (m' ((0 : Dev Cert.ReferenceIdeal.nD).tc.loc Cert.ReferenceIdeal.main_arg1))
      ∧ m (c.tc.loc main_arg2) = m' ((0 : Dev Cert.ReferenceIdeal.nD).tc.loc Cert.ReferenceIdeal.main_arg2)
      ∧ m (c.tc.loc main_arg3) = m' ((0 : Dev Cert.ReferenceIdeal.nD).tc.loc Cert.ReferenceIdeal.main_arg3)
      ∧ m (c.tc.loc main_arg4) = Layout.block ⟨2, ![256, 512]⟩ ⟨2, ![1024, 512]⟩ 0 4 c (m' ((0 : Dev Cert.ReferenceIdeal.nD).tc.loc Cert.ReferenceIdeal.main_arg4)))
    (c : Dev nD) : total m c = Cert.ReferenceIdeal.Value.res_main_v42 m' 0 := by
  generalize hX : m' ((0 : Dev Cert.ReferenceIdeal.nD).tc.loc Cert.ReferenceIdeal.main_arg0) = X at hm
  generalize hW : m' ((0 : Dev Cert.ReferenceIdeal.nD).tc.loc Cert.ReferenceIdeal.main_arg1) = W at hm
  generalize hK : m' ((0 : Dev Cert.ReferenceIdeal.nD).tc.loc Cert.ReferenceIdeal.main_arg2) = K at hm
  generalize hV : m' ((0 : Dev Cert.ReferenceIdeal.nD).tc.loc Cert.ReferenceIdeal.main_arg3) = V at hm
  generalize hO : m' ((0 : Dev Cert.ReferenceIdeal.nD).tc.loc Cert.ReferenceIdeal.main_arg4) = O at hm
  have rX : ∀ i : S2x128x512.Idx, IsReal (X i) := fun i => (hm 0).1 ▸ (pre_real m hpre 0).1 i
  have rK : ∀ i : S2x128x16x64.Idx, IsReal (K i) := fun i => (hm 0).2.2.1 ▸ (pre_real m hpre 0).2.2 i
  have rW : ∀ i : (⟨2, ![512, 1024]⟩ : Shape).Idx, IsReal (W i) := real_of_blocks W fun c i => (hm c).2.1 ▸ (pre_real m hpre c).2.1 i
  have own : ∀ s : Dev nD, mine m s = part (F := Ideal) X (Layout.block ⟨2, ![512, 256]⟩ ⟨2, ![512, 1024]⟩ 1 4 s W) (fourHeads (firstHead s) K) (fourHeads (firstHead s) V) (Layout.block ⟨2, ![256, 512]⟩ ⟨2, ![1024, 512]⟩ 0 4 s O) := fun s => by
    obtain ⟨e0, e1, e2, e3, e4⟩ := hm s
    have a0 : V1 m s main_arg0 = X := (V1_of m s main_arg0 (by decide)).trans e0
    have a1 : V1 m s main_arg1 = Layout.block ⟨2, ![512, 256]⟩ ⟨2, ![512, 1024]⟩ 1 4 s W := (V1_of m s main_arg1 (by decide)).trans e1
    have a2 : V1 m s main_v9 = fourHeads (firstHead s) K := (keys_slice m s).trans (congrArg (fourHeads (firstHead s)) e2)
    have a3 : V1 m s main_v14 = fourHeads (firstHead s) V := (values_slice m s).trans (congrArg (fourHeads (firstHead s)) e3)
    have a4 : V1 m s main_arg4 = Layout.block ⟨2, ![256, 512]⟩ ⟨2, ![1024, 512]⟩ 0 4 s O := (V1_of m s main_arg4 (by decide)).trans e4
    unfold mine
    rw [a0, a1, a2, a3, a4]
  rw [Cert.ReferenceIdeal.Value.res_stages, hX, hW, hK, hV, hO]
  funext j
  obtain ⟨b, i, o, rfl⟩ : ∃ (b : Fin 2) (i : Fin 128) (o : Fin 512), j = ix3 b i o := ⟨j 0, j 1, j 2, eq_ix3 j⟩
  refine (acc_sum (mine m) c (ix3 b i o)).trans (Eq.trans ?_ (stages_columns X W K V O rX rW rK b i o).symm)
  rw [sum_devices]
  exact Finset.sum_congr rfl fun s _ => (congrFun (own s) (ix3 b i o)).trans (part_columns X W K V O s b i o)

end Cert.KernelIdeal.Talk

end
-- ==== Proof.Values.lean ====
/- The values: every device ends with the reference's result. -/
module

public import proofs.«01_k».proof.Defs
public import proofs.«01_k».proof.Proof.Frames
public import proofs.«01_k».proof.Proof.Equation

@[expose] public section

set_option maxRecDepth 16384

noncomputable section

namespace Cert.Proof

open Idealize.ShloMosaic Idealize.SL.Sem

/-- The facts that the reference's precondition is read with. -/
instance : Cert.Pre_finite_scores_ReferenceIdeal.Facts := ⟨by decide, by decide, by decide⟩

/-- The idealized kernel's frame holds without the precondition, so with it. -/
theorem frame_ideal_pre : Cert.quiescent_KernelIdeal_pre_finite_scores_KernelIdeal := fun m ρ _ => frame_ideal m ρ trivial
/-- So does the reference's. -/
theorem frame_reference_pre : Cert.quiescent_ReferenceIdeal_pre_finite_scores_ReferenceIdeal := fun m ρ _ => frame_reference m ρ trivial

/-- Over the reals, from finite inputs, query weights and keys, the kernel leaves on every device what the reference leaves on the whole arrays. -/
theorem values : Cert.algebraic_KernelIdeal_ReferenceIdeal_pre_finite_scores_KernelIdeal := by
  intro m ρ m' ρ' hpre hm
  refine ⟨Cert.ReferenceIdeal.Value.res_main_v42 m' 0, ?_, ?_⟩
  · exact (θ_run (Cert.KernelIdeal.defs (F := Ideal)) _ _).mono
      (fun _ h c => ⟨(h.1 c).2.trans (Cert.KernelIdeal.Talk.total_eq m m' hpre hm c), (h.1 c).1⟩) (Cert.KernelIdeal.Talk.run_main (F := Ideal) m ρ)
  · exact (θ_run (Cert.ReferenceIdeal.defs (F := Ideal)) _ _).mono (fun _ h => h 0) (Cert.ReferenceIdeal.Value.run (F := Ideal) m' ρ')

end Cert.Proof

end
-- ==== Proof.lean ====
/- The proof of the claim. -/
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The frames, that the idealized kernel is the kernel's own text, and that its result is the reference's. -/
theorem claim : Cert.Claim :=
  ⟨Cert.Kernel.Gen.facts, Cert.KernelIdeal.Gen.facts, Cert.ReferenceIdeal.Gen.facts, inferInstance, inferInstance,
    frame_kernel, frame_ideal, frame_ideal_pre, frame_reference, frame_reference_pre, trivial, values⟩

end Cert.Proof

end
